-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v97)) (v1 : (c : Dev Cert.KernelIdeal.nD) → Buf (Elt Ideal) ((c.tc : Thread Cert.KernelIdeal.nD Cert.KernelIdeal.τ).loc Cert.KernelIdeal.main_v41)) (v2 : (c : Dev Cert.KernelIdeal.nD) → Buf (Elt Ideal) ((c.tc : Thread Cert.KernelIdeal.nD Cert.KernelIdeal.τ).loc Cert.KernelIdeal.main_v34)) (v3 : (c : Dev Cert.KernelIdeal.nD) → Buf (Elt Ideal) ((c.tc : Thread Cert.KernelIdeal.nD Cert.KernelIdeal.τ).loc Cert.KernelIdeal.main_v35)) (v4 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_v41) = v1 c
          ∧ r.2.mem ((c.tc : Thread Cert.KernelIdeal.nD Cert.KernelIdeal.τ).loc Cert.KernelIdeal.main_v34) = v2 c
          ∧ r.2.mem ((c.tc : Thread Cert.KernelIdeal.nD Cert.KernelIdeal.τ).loc Cert.KernelIdeal.main_v35) = v3 c
          ∧ r.2.mem ((c.tc : Thread Cert.KernelIdeal.nD Cert.KernelIdeal.τ).loc Cert.KernelIdeal.main_v30) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_v33) = v2 c
          ∧ r.2.mem ((c.tc : Thread Cert.ReferenceIdeal.nD Cert.ReferenceIdeal.τ).loc Cert.ReferenceIdeal.main_v34) = v3 c
          ∧ r.2.mem ((c.tc : Thread Cert.ReferenceIdeal.nD Cert.ReferenceIdeal.τ).loc Cert.ReferenceIdeal.main_v29) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x96x224x224 : Shape := ⟨4, ![2, 96, 224, 224]⟩
abbrev S96x4 : Shape := ⟨2, ![96, 4]⟩
abbrev S96x96x3x3 : Shape := ⟨4, ![96, 96, 3, 3]⟩
abbrev S96x96x24 : Shape := ⟨3, ![96, 96, 24]⟩
abbrev S96x288x1x1 : Shape := ⟨4, ![96, 288, 1, 1]⟩
abbrev S96x96x1x1 : Shape := ⟨4, ![96, 96, 1, 1]⟩
abbrev S_ : Shape := ⟨0, ![]⟩

class Facts : Prop where
  bcast_S_S2x96x224x224 : S_.BroadcastsInDim S2x96x224x224 (![] : Fin 0 → Fin S2x96x224x224.rank)
  reducesTo_S2x96x224x224_S_d0_1_2_3 : S2x96x224x224.ReducesTo [0, 1, 2, 3] S_
  h_S_ : 0 < S_.numel
  bcast_S_S96x4 : S_.BroadcastsInDim S96x4 (![] : Fin 0 → Fin S96x4.rank)
  reducesTo_S96x4_S_d0_1 : S96x4.ReducesTo [0, 1] S_
  bcast_S_S96x96x3x3 : S_.BroadcastsInDim S96x96x3x3 (![] : Fin 0 → Fin S96x96x3x3.rank)
  reducesTo_S96x96x3x3_S_d0_1_2_3 : S96x96x3x3.ReducesTo [0, 1, 2, 3] S_
  bcast_S_S96x288x1x1 : S_.BroadcastsInDim S96x288x1x1 (![] : Fin 0 → Fin S96x288x1x1.rank)
  reducesTo_S96x288x1x1_S_d0_1_2_3 : S96x288x1x1.ReducesTo [0, 1, 2, 3] S_
  bcast_S_S96x96x1x1 : S_.BroadcastsInDim S96x96x1x1 (![] : Fin 0 → Fin S96x96x1x1.rank)
  reducesTo_S96x96x1x1_S_d0_1_2_3 : S96x96x1x1.ReducesTo [0, 1, 2, 3] S_

variable [Facts]

def fn_part1 {F : FTy → Type} [FloatOps F] (main_arg5 : FVec F S96x96x1x1 .f32) (main_arg6 : FVec F S96x96x3x3 .f32) (main_v13 : IVec S_ 1) (main_v16 : IVec S96x288x1x1 1) : IVec S_ 1 :=
  let main_c_5 : IVec S_ 1 := constantI S_ 1 1#1
  let main_v17 : IVec S_ 1 := (fun x v => Host.reduce IntOp.andi x v reducesTo_S96x288x1x1_S_d0_1_2_3 h_S_) main_v16 main_c_5
  let main_v18 : IVec S_ 1 := andi main_v13 main_v17
  let main_v19 : FVec F S96x96x1x1 .f32 := Host.absf main_arg5
  let main_cst_6 : FVec F S_ .f32 := constant S_ .f32 0x7F800000#32
  let main_v20 : FVec F S96x96x1x1 .f32 := broadcastInDim S96x96x1x1 ![] bcast_S_S96x96x1x1 main_cst_6
  let main_v21 : IVec S96x96x1x1 1 := cmpf .olt main_v19 main_v20
  let main_c_7 : IVec S_ 1 := constantI S_ 1 1#1
  let main_v22 : IVec S_ 1 := (fun x v => Host.reduce IntOp.andi x v reducesTo_S96x96x1x1_S_d0_1_2_3 h_S_) main_v21 main_c_7
  let main_v23 : IVec S_ 1 := andi main_v18 main_v22
  let main_v24 : FVec F S96x96x3x3 .f32 := Host.absf main_arg6
  let main_cst_8 : FVec F S_ .f32 := constant S_ .f32 0x7F800000#32
  let main_v25 : FVec F S96x96x3x3 .f32 := broadcastInDim S96x96x3x3 ![] bcast_S_S96x96x3x3 main_cst_8
  let main_v26 : IVec S96x96x3x3 1 := cmpf .olt main_v24 main_v25
  let main_c_9 : IVec S_ 1 := constantI S_ 1 1#1
  let main_v27 : IVec S_ 1 := (fun x v => Host.reduce IntOp.andi x v reducesTo_S96x96x3x3_S_d0_1_2_3 h_S_) main_v26 main_c_9
  let main_v28 : IVec S_ 1 := andi main_v23 main_v27
  main_v28

def fn {F : FTy → Type} [FloatOps F] (main_arg0 : FVec F S2x96x224x224 .f32) (main_arg1 : FVec F S96x4 .f32) (main_arg2 : FVec F S96x96x3x3 .f32) (main_arg3 : FVec F S96x96x24 .f32) (main_arg4 : FVec F S96x288x1x1 .f32) (main_arg5 : FVec F S96x96x1x1 .f32) (main_arg6 : FVec F S96x96x3x3 .f32) : IVec S_ 1 :=
  let main_v0 : FVec F S2x96x224x224 .f32 := Host.absf main_arg0
  let main_cst : FVec F S_ .f32 := constant S_ .f32 0x7F800000#32
  let main_v1 : FVec F S2x96x224x224 .f32 := broadcastInDim S2x96x224x224 ![] bcast_S_S2x96x224x224 main_cst
  let main_v2 : IVec S2x96x224x224 1 := cmpf .olt main_v0 main_v1
  let main_c : IVec S_ 1 := constantI S_ 1 1#1
  let main_v3 : IVec S_ 1 := (fun x v => Host.reduce IntOp.andi x v reducesTo_S2x96x224x224_S_d0_1_2_3 h_S_) main_v2 main_c
  let main_v4 : FVec F S96x4 .f32 := Host.absf main_arg1
  let main_cst_0 : FVec F S_ .f32 := constant S_ .f32 0x7F800000#32
  let main_v5 : FVec F S96x4 .f32 := broadcastInDim S96x4 ![] bcast_S_S96x4 main_cst_0
  let main_v6 : IVec S96x4 1 := cmpf .olt main_v4 main_v5
  let main_c_1 : IVec S_ 1 := constantI S_ 1 1#1
  let main_v7 : IVec S_ 1 := (fun x v => Host.reduce IntOp.andi x v reducesTo_S96x4_S_d0_1 h_S_) main_v6 main_c_1
  let main_v8 : IVec S_ 1 := andi main_v3 main_v7
  let main_v9 : FVec F S96x96x3x3 .f32 := Host.absf main_arg2
  let main_cst_2 : FVec F S_ .f32 := constant S_ .f32 0x7F800000#32
  let main_v10 : FVec F S96x96x3x3 .f32 := broadcastInDim S96x96x3x3 ![] bcast_S_S96x96x3x3 main_cst_2
  let main_v11 : IVec S96x96x3x3 1 := cmpf .olt main_v9 main_v10
  let main_c_3 : IVec S_ 1 := constantI S_ 1 1#1
  let main_v12 : IVec S_ 1 := (fun x v => Host.reduce IntOp.andi x v reducesTo_S96x96x3x3_S_d0_1_2_3 h_S_) main_v11 main_c_3
  let main_v13 : IVec S_ 1 := andi main_v8 main_v12
  let main_v14 : FVec F S96x288x1x1 .f32 := Host.absf main_arg4
  let main_cst_4 : FVec F S_ .f32 := constant S_ .f32 0x7F800000#32
  let main_v15 : FVec F S96x288x1x1 .f32 := broadcastInDim S96x288x1x1 ![] bcast_S_S96x288x1x1 main_cst_4
  let main_v16 : IVec S96x288x1x1 1 := cmpf .olt main_v14 main_v15
  fn_part1 (F := F) main_arg5 main_arg6 main_v13 main_v16
-- ==== Kernel.lean ====
abbrev S2x96x224x224 : Shape := ⟨4, ![2, 96, 224, 224]⟩
abbrev S96x4 : Shape := ⟨2, ![96, 4]⟩
abbrev S96x96x3x3 : Shape := ⟨4, ![96, 96, 3, 3]⟩
abbrev S96x96x24 : Shape := ⟨3, ![96, 96, 24]⟩
abbrev S96x288x1x1 : Shape := ⟨4, ![96, 288, 1, 1]⟩
abbrev S96x96x1x1 : Shape := ⟨4, ![96, 96, 1, 1]⟩
abbrev S3x5x5 : Shape := ⟨3, ![3, 5, 5]⟩
abbrev S3x3 : Shape := ⟨2, ![3, 3]⟩
abbrev S2x1x96 : Shape := ⟨3, ![2, 1, 96]⟩
abbrev S2x96x224x256 : Shape := ⟨4, ![2, 96, 224, 256]⟩
abbrev S1x96x56x224 : Shape := ⟨4, ![1, 96, 56, 224]⟩
abbrev S1x1x96 : Shape := ⟨3, ![1, 1, 96]⟩
abbrev S1x96x56x256 : Shape := ⟨4, ![1, 96, 56, 256]⟩
abbrev S96x56x224 : Shape := ⟨3, ![96, 56, 224]⟩
abbrev S96 : Shape := ⟨1, ![96]⟩
abbrev S96x56x32 : Shape := ⟨3, ![96, 56, 32]⟩
abbrev S96x56x256 : Shape := ⟨3, ![96, 56, 256]⟩
abbrev S2x96 : Shape := ⟨2, ![2, 96]⟩
abbrev S_ : Shape := ⟨0, ![]⟩
abbrev S2x4 : Shape := ⟨2, ![2, 4]⟩
abbrev S2x1 : Shape := ⟨2, ![2, 1]⟩
abbrev S2 : Shape := ⟨1, ![2]⟩
abbrev S2x1x1 : Shape := ⟨3, ![2, 1, 1]⟩
abbrev S2x1x2 : Shape := ⟨3, ![2, 1, 2]⟩
abbrev S4 : Shape := ⟨1, ![4]⟩
abbrev S1 : Shape := ⟨1, ![1]⟩
abbrev S96x96x5x5 : Shape := ⟨4, ![96, 96, 5, 5]⟩
abbrev S96x96 : Shape := ⟨2, ![96, 96]⟩
abbrev S96x96x1 : Shape := ⟨3, ![96, 96, 1]⟩
abbrev S96x96x12 : Shape := ⟨3, ![96, 96, 12]⟩
abbrev S96x96x25 : Shape := ⟨3, ![96, 96, 25]⟩
abbrev S96x288 : Shape := ⟨2, ![96, 288]⟩
abbrev S96x96x3 : Shape := ⟨3, ![96, 96, 3]⟩
abbrev S96x96x3x1x1 : Shape := ⟨5, ![96, 96, 3, 1, 1]⟩
abbrev S1x1x3x5x5 : Shape := ⟨5, ![1, 1, 3, 5, 5]⟩
abbrev S96x96x3x5x5 : Shape := ⟨5, ![96, 96, 3, 5, 5]⟩
abbrev S1x1x3x3 : Shape := ⟨4, ![1, 1, 3, 3]⟩
abbrev S1x96x96x5x5 : Shape := ⟨5, ![1, 96, 96, 5, 5]⟩
abbrev S4x96x96x5x5 : Shape := ⟨5, ![4, 96, 96, 5, 5]⟩
abbrev S4x5x96x5x96 : Shape := ⟨5, ![4, 5, 96, 5, 96]⟩
abbrev S4x5x96x480 : Shape := ⟨4, ![4, 5, 96, 480]⟩
abbrev S2x5x96x480 : Shape := ⟨4, ![2, 5, 96, 480]⟩
abbrev S2x96x57344 : Shape := ⟨3, ![2, 96, 57344]⟩
abbrev S1x5x96x480 : Shape := ⟨4, ![1, 5, 96, 480]⟩
abbrev S2x96x15872 : Shape := ⟨3, ![2, 96, 15872]⟩
abbrev S96x768 : Shape := ⟨2, ![96, 768]⟩
abbrev S1x96x768 : Shape := ⟨3, ![1, 96, 768]⟩
abbrev S1x96x15104 : Shape := ⟨3, ![1, 96, 15104]⟩
abbrev S96x15104 : Shape := ⟨2, ![96, 15104]⟩
abbrev S1x96x15872 : Shape := ⟨3, ![1, 96, 15872]⟩
abbrev S96x15872 : Shape := ⟨2, ![96, 15872]⟩
abbrev S96x15360 : Shape := ⟨2, ![96, 15360]⟩
abbrev S480x15360 : Shape := ⟨2, ![480, 15360]⟩
abbrev S1x1x96x480 : Shape := ⟨4, ![1, 1, 96, 480]⟩
abbrev S96x480 : Shape := ⟨2, ![96, 480]⟩
abbrev S480x14336 : Shape := ⟨2, ![480, 14336]⟩
abbrev S96x14336 : Shape := ⟨2, ![96, 14336]⟩

abbrev nBuf : Space → Nat
  | .hbm => 160
  | .vmem => 11
  | .smem => 0
  | _ => 0

abbrev hbmTy0_0 (i : Nat) : BufTy := match i % 128 with
  | 0 => ⟨S2x96x224x224, .f32⟩
  | 1 => ⟨S96x4, .f32⟩
  | 2 => ⟨S96x96x3x3, .f32⟩
  | 3 => ⟨S96x96x24, .f32⟩
  | 4 => ⟨S96x288x1x1, .f32⟩
  | 5 => ⟨S96x96x1x1, .f32⟩
  | 6 => ⟨S96x96x3x3, .f32⟩
  | 7 => ⟨S3x5x5, .f32⟩
  | 8 => ⟨S3x3, .f32⟩
  | 9 => ⟨S2x1x96, .f32⟩
  | 10 => ⟨S2x96x224x256, .bf16⟩
  | 11 => ⟨S2x96, .f32⟩
  | 12 => ⟨S_, .f32⟩
  | 13 => ⟨S2x96, .f32⟩
  | 14 => ⟨S2x96, .f32⟩
  | 15 => ⟨S2x4, .f32⟩
  | 16 => ⟨S2x1, .f32⟩
  | 17 => ⟨S2x1, .i32⟩
  | 18 => ⟨S_, .f32⟩
  | 19 => ⟨S2, .f32⟩
  | 20 => ⟨S_, .f32⟩
  | 21 => ⟨S2, .f32⟩
  | 22 => ⟨S2, .f32⟩
  | 23 => ⟨S2x1, .f32⟩
  | 24 => ⟨S2x1, .f32⟩
  | 25 => ⟨S2x1, .f32⟩
  | 26 => ⟨S_, .f32⟩
  | 27 => ⟨S2, .f32⟩
  | 28 => ⟨S2x1, .f32⟩
  | 29 => ⟨S2x1, .f32⟩
  | 30 => ⟨S_, .f32⟩
  | 31 => ⟨S2x4, .f32⟩
  | 32 => ⟨S2, .i32⟩
  | 33 => ⟨S2x1, .i32⟩
  | 34 => ⟨S_, .i32⟩
  | 35 => ⟨S2x1, .i32⟩
  | 36 => ⟨S2x1, .i1⟩
  | 37 => ⟨S_, .i32⟩
  | 38 => ⟨S2x1, .i32⟩
  | 39 => ⟨S2x1, .i32⟩
  | 40 => ⟨S2x1, .i32⟩
  | 41 => ⟨S_, .i32⟩
  | 42 => ⟨S2x1, .i32⟩
  | 43 => ⟨S2x1, .i1⟩
  | 44 => ⟨S_, .i32⟩
  | 45 => ⟨S2x1, .i32⟩
  | 46 => ⟨S2x1, .i32⟩
  | 47 => ⟨S2x1, .i32⟩
  | 48 => ⟨S2x1x1, .i32⟩
  | 49 => ⟨S2x1x1, .i32⟩
  | 50 => ⟨S2x1x2, .i32⟩
  | 51 => ⟨S2x4, .f32⟩
  | 52 => ⟨S_, .f32⟩
  | 53 => ⟨S2x4, .f32⟩
  | 54 => ⟨S2x4, .i1⟩
  | 55 => ⟨S2x4, .i32⟩
  | 56 => ⟨S_, .i32⟩
  | 57 => ⟨S4, .i32⟩
  | 58 => ⟨S_, .f32⟩
  | 59 => ⟨S4, .f32⟩
  | 60 => ⟨S_, .f32⟩
  | 61 => ⟨S_, .f32⟩
  | 62 => ⟨S_, .f32⟩
  | 63 => ⟨S_, .f32⟩
  | 64 => ⟨S_, .i32⟩
  | 65 => ⟨S_, .f32⟩
  | 66 => ⟨S_, .f32⟩
  | 67 => ⟨S1, .f32⟩
  | 68 => ⟨S_, .f32⟩
  | 69 => ⟨S1, .f32⟩
  | 70 => ⟨S1, .f32⟩
  | 71 => ⟨S4, .f32⟩
  | 72 => ⟨S4, .f32⟩
  | 73 => ⟨S4, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .i1⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .i32⟩
  | 90 => ⟨S_, .f32⟩
  | 91 => ⟨S96x96x5x5, .f32⟩
  | 92 => ⟨S_, .f32⟩
  | 93 => ⟨S96x96, .f32⟩
  | 94 => ⟨S_, .f32⟩
  | 95 => ⟨S96x96, .f32⟩
  | 96 => ⟨S96x96, .f32⟩
  | 97 => ⟨S_, .i32⟩
  | 98 => ⟨S1, .i32⟩
  | 99 => ⟨S_, .i32⟩
  | 100 => ⟨S1, .i32⟩
  | 101 => ⟨S2, .i32⟩
  | 102 => ⟨S96x96x3x3, .f32⟩
  | 103 => ⟨S_, .i32⟩
  | 104 => ⟨S_, .f32⟩
  | 105 => ⟨S96x96x5x5, .f32⟩
  | 106 => ⟨S96x96x5x5, .f32⟩
  | 107 => ⟨S_, .f32⟩
  | 108 => ⟨S96x96, .f32⟩
  | 109 => ⟨S96x96x1, .f32⟩
  | 110 => ⟨S96x96x24, .f32⟩
  | 111 => ⟨S96x96x24, .f32⟩
  | 112 => ⟨S96x96x12, .f32⟩
  | 113 => ⟨S_, .f32⟩
  | 114 => ⟨S96x96x1, .f32⟩
  | 115 => ⟨S96x96x1, .f32⟩
  | 116 => ⟨S96x96x12, .f32⟩
  | 117 => ⟨S96x96x25, .f32⟩
  | 118 => ⟨S96x96x5x5, .f32⟩
  | 119 => ⟨S96x96x5x5, .f32⟩
  | 120 => ⟨S96x288, .f32⟩
  | 121 => ⟨S96x96x3, .f32⟩
  | 122 => ⟨S96x96x3x1x1, .f32⟩
  | 123 => ⟨S1x1x3x5x5, .f32⟩
  | 124 => ⟨S96x96x3x5x5, .f32⟩
  | 125 => ⟨S96x96x3x5x5, .f32⟩
  | 126 => ⟨S96x96x3x5x5, .f32⟩
  | 127 => ⟨S_, .f32⟩
  | _ => ⟨S2x96x224x224, .f32⟩

abbrev hbmTy0_1 (i : Nat) : BufTy := match i % 128 with
  | 0 => ⟨S96x96x5x5, .f32⟩
  | 1 => ⟨S96x96x5x5, .f32⟩
  | 2 => ⟨S96x96, .f32⟩
  | 3 => ⟨S96x96x1x1, .f32⟩
  | 4 => ⟨S1x1x3x3, .f32⟩
  | 5 => ⟨S96x96x3x3, .f32⟩
  | 6 => ⟨S96x96x3x3, .f32⟩
  | 7 => ⟨S96x96x3x3, .f32⟩
  | 8 => ⟨S_, .i32⟩
  | 9 => ⟨S_, .f32⟩
  | 10 => ⟨S96x96x5x5, .f32⟩
  | 11 => ⟨S96x96x5x5, .f32⟩
  | 12 => ⟨S1x96x96x5x5, .f32⟩
  | 13 => ⟨S1x96x96x5x5, .f32⟩
  | 14 => ⟨S1x96x96x5x5, .f32⟩
  | 15 => ⟨S1x96x96x5x5, .f32⟩
  | 16 => ⟨S4x96x96x5x5, .f32⟩
  | 17 => ⟨S4x5x96x5x96, .f32⟩
  | 18 => ⟨S4x5x96x480, .f32⟩
  | 19 => ⟨S2, .i32⟩
  | 20 => ⟨S_, .i32⟩
  | 21 => ⟨S2, .i32⟩
  | 22 => ⟨S2, .i1⟩
  | 23 => ⟨S_, .i32⟩
  | 24 => ⟨S2, .i32⟩
  | 25 => ⟨S2, .i32⟩
  | 26 => ⟨S2, .i32⟩
  | 27 => ⟨S2x1, .i32⟩
  | 28 => ⟨S2x5x96x480, .f32⟩
  | 29 => ⟨S2x5x96x480, .bf16⟩
  | 30 => ⟨S2x96x57344, .bf16⟩
  | 31 => ⟨S2x96x224x224, .f32⟩
  | _ => ⟨S2x96x224x224, .f32⟩

abbrev hbmTy (i : Nat) : BufTy := match i / 128 with
  | 0 => hbmTy0_0 i
  | 1 => hbmTy0_1 i
  | _ => ⟨S2x96x224x224, .f32⟩

abbrev bufTy : (tb : Table) → Fin (tcTables nBuf tb) → BufTy
  | .hbm, ⟨i, _⟩ => hbmTy i
  | .local _ .vmem, ⟨0, _⟩ => ⟨S1x96x56x224, .f32⟩
  | .local _ .vmem, ⟨1, _⟩ => ⟨S1x96x56x224, .f32⟩
  | .local _ .vmem, ⟨2, _⟩ => ⟨S1x1x96, .f32⟩
  | .local _ .vmem, ⟨3, _⟩ => ⟨S1x1x96, .f32⟩
  | .local _ .vmem, ⟨4, _⟩ => ⟨S1x96x56x256, .bf16⟩
  | .local _ .vmem, ⟨5, _⟩ => ⟨S1x96x56x256, .bf16⟩
  | .local _ .vmem, ⟨6, _⟩ => ⟨S1x5x96x480, .bf16⟩
  | .local _ .vmem, ⟨7, _⟩ => ⟨S1x5x96x480, .bf16⟩
  | .local _ .vmem, ⟨8, _⟩ => ⟨S1x96x56x224, .f32⟩
  | .local _ .vmem, ⟨9, _⟩ => ⟨S1x96x56x224, .f32⟩
  | .local _ .vmem, ⟨10, _⟩ => ⟨S2x96x15872, .bf16⟩
  | _, _ => ⟨S2x96x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_v0_0 : Ref sig .tc := ⟨.hbm, 9, rfl⟩
abbrev main_v0_1 : Ref sig .tc := ⟨.hbm, 10, rfl⟩
abbrev main_v1 : Ref sig .tc := ⟨.hbm, 11, rfl⟩
abbrev main_cst_1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_values : Ref sig .tc := ⟨.hbm, 16, rfl⟩
abbrev main_indices : Ref sig .tc := ⟨.hbm, 17, rfl⟩
abbrev main_cst_2 : Ref sig .tc := ⟨.hbm, 18, rfl⟩
abbrev main_v5 : Ref sig .tc := ⟨.hbm, 19, rfl⟩
abbrev main_cst_3 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_4 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_6 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_7 : Ref sig .tc := ⟨.hbm, 41, rfl⟩
abbrev main_v22 : Ref sig .tc := ⟨.hbm, 42, rfl⟩
abbrev main_v23 : Ref sig .tc := ⟨.hbm, 43, rfl⟩
abbrev main_c_8 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_9 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_10 : Ref sig .tc := ⟨.hbm, 56, rfl⟩
abbrev main_v34 : Ref sig .tc := ⟨.hbm, 57, rfl⟩
abbrev main_cst_11 : Ref sig .tc := ⟨.hbm, 58, rfl⟩
abbrev main_v35 : Ref sig .tc := ⟨.hbm, 59, rfl⟩
abbrev main_cst_12 : Ref sig .tc := ⟨.hbm, 60, rfl⟩
abbrev main_v36 : Ref sig .tc := ⟨.hbm, 61, rfl⟩
abbrev main_cst_13 : Ref sig .tc := ⟨.hbm, 62, rfl⟩
abbrev main_v37 : Ref sig .tc := ⟨.hbm, 63, rfl⟩
abbrev main_c_14 : Ref sig .tc := ⟨.hbm, 64, rfl⟩
abbrev main_call0_cst : Ref sig .tc := ⟨.hbm, 65, rfl⟩
abbrev main_call0_v0 : Ref sig .tc := ⟨.hbm, 66, rfl⟩
abbrev main_call0_v1 : Ref sig .tc := ⟨.hbm, 67, rfl⟩
abbrev main_call0_cst_0 : Ref sig .tc := ⟨.hbm, 68, rfl⟩
abbrev main_call0_v2 : Ref sig .tc := ⟨.hbm, 69, rfl⟩
abbrev main_call0_v3 : Ref sig .tc := ⟨.hbm, 70, rfl⟩
abbrev main_call0_v4 : Ref sig .tc := ⟨.hbm, 71, rfl⟩
abbrev main_call0_v5 : Ref sig .tc := ⟨.hbm, 72, rfl⟩
abbrev main_call0_v6 : Ref sig .tc := ⟨.hbm, 73, rfl⟩
abbrev main_call0_v7 : Ref sig .tc := ⟨.hbm, 74, rfl⟩
abbrev main_call0_cst_1 : Ref sig .tc := ⟨.hbm, 75, rfl⟩
abbrev main_call0_v8 : Ref sig .tc := ⟨.hbm, 76, rfl⟩
abbrev main_call0_cst_2 : Ref sig .tc := ⟨.hbm, 77, rfl⟩
abbrev main_call0_v9 : Ref sig .tc := ⟨.hbm, 78, rfl⟩
abbrev main_call0_v10 : Ref sig .tc := ⟨.hbm, 79, rfl⟩
abbrev main_call0_cst_3 : Ref sig .tc := ⟨.hbm, 80, rfl⟩
abbrev main_call0_v11 : Ref sig .tc := ⟨.hbm, 81, rfl⟩
abbrev main_call0_cst_4 : Ref sig .tc := ⟨.hbm, 82, rfl⟩
abbrev main_call0_call0_v0 : Ref sig .tc := ⟨.hbm, 83, rfl⟩
abbrev main_v38 : Ref sig .tc := ⟨.hbm, 84, rfl⟩
abbrev main_v39 : Ref sig .tc := ⟨.hbm, 85, rfl⟩
abbrev main_cst_15 : Ref sig .tc := ⟨.hbm, 86, rfl⟩
abbrev main_v40 : Ref sig .tc := ⟨.hbm, 87, rfl⟩
abbrev main_v41 : Ref sig .tc := ⟨.hbm, 88, rfl⟩
abbrev main_c_16 : Ref sig .tc := ⟨.hbm, 89, rfl⟩
abbrev main_call1_v0 : Ref sig .tc := ⟨.hbm, 90, rfl⟩
abbrev main_v42 : Ref sig .tc := ⟨.hbm, 91, rfl⟩
abbrev main_cst_17 : Ref sig .tc := ⟨.hbm, 92, rfl⟩
abbrev main_v43 : Ref sig .tc := ⟨.hbm, 93, rfl⟩
abbrev main_cst_18 : Ref sig .tc := ⟨.hbm, 94, rfl⟩
abbrev main_v44 : Ref sig .tc := ⟨.hbm, 95, rfl⟩
abbrev main_v45 : Ref sig .tc := ⟨.hbm, 96, rfl⟩
abbrev main_c_19 : Ref sig .tc := ⟨.hbm, 97, rfl⟩
abbrev main_v46 : Ref sig .tc := ⟨.hbm, 98, rfl⟩
abbrev main_c_20 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_c_21 : Ref sig .tc := ⟨.hbm, 103, rfl⟩
abbrev main_call2_v0 : Ref sig .tc := ⟨.hbm, 104, rfl⟩
abbrev main_v50 : Ref sig .tc := ⟨.hbm, 105, rfl⟩
abbrev main_v51 : Ref sig .tc := ⟨.hbm, 106, rfl⟩
abbrev main_cst_22 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_cst_23 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_cst_24 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_c_25 : Ref sig .tc := ⟨.hbm, 136, rfl⟩
abbrev main_call3_v0 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_c_26 : Ref sig .tc := ⟨.hbm, 148, rfl⟩
abbrev main_v88 : Ref sig .tc := ⟨.hbm, 149, rfl⟩
abbrev main_v89 : Ref sig .tc := ⟨.hbm, 150, rfl⟩
abbrev main_c_27 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9

abbrev nD : Nat := 1
abbrev τ : Topo := Topo.v7x

variable {F : FTy → Type} [FloatOps F]

abbrev grid0 : Pipeline.Grid := ⟨2, ![2, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x96x56x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x96x56x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 4], ![false, false]⟩

def k1_cond1 (i : grid1.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32 : BitVec 32 := 0#32
  let v5 : BitVec 1 := Scalar.cmpi .eq v1 c0_i32
  let v6 : BitVec 32 := Scalar.extui v5
  let c0_i32_1 : BitVec 32 := 0#32
  let v7 : BitVec 1 := Scalar.cmpi .ne v6 c0_i32_1
  v7

def k1_cond2 (i : grid1.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c4_i32_50 : BitVec 32 := 4#32
  let v96 : BitVec 32 := Scalar.remsi v1 c4_i32_50
  let c0_i32_51 : BitVec 32 := 0#32
  let v97 : BitVec 1 := Scalar.cmpi .eq v96 c0_i32_51
  let v98 : BitVec 32 := Scalar.extui v97
  let c0_i32_52 : BitVec 32 := 0#32
  let v99 : BitVec 1 := Scalar.cmpi .ne v98 c0_i32_52
  v99

def k1_off1 (i : grid1.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let v109 : Index := Scalar.indexCast v2
  let c0_59 : Index := 0#32
  let c0_60 : Index := 0#32
  ![v109.toNat, 0, 0]
def k1_off2 (i : grid1.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k1_off3 (i : grid1.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_61 : BitVec 32 := 0#32
  let c768_i32 : BitVec 32 := 768#32
  ![v2.toNat, 0, 768]
def k1_off4 (i : grid1.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32_44 : BitVec 32 := 0#32
  let v80 : BitVec 1 := Scalar.cmpi .sgt v1 c0_i32_44
  let v81 : BitVec 32 := Scalar.extui v80
  let c0_i32_45 : BitVec 32 := 0#32
  let v82 : BitVec 1 := Scalar.cmpi .slt v1 c0_i32_45
  let v83 : BitVec 32 := Scalar.extui v82
  let v84 : BitVec 32 := Scalar.subi v81 v83
  let c4_i32_43 : BitVec 32 := 4#32
  let c0_i32_46 : BitVec 32 := 0#32
  let v85 : BitVec 1 := Scalar.cmpi .sgt c4_i32_43 c0_i32_46
  let v86 : BitVec 32 := Scalar.extui v85
  let c0_i32_47 : BitVec 32 := 0#32
  let v87 : BitVec 1 := Scalar.cmpi .slt c4_i32_43 c0_i32_47
  let v88 : BitVec 32 := Scalar.extui v87
  let v89 : BitVec 32 := Scalar.subi v86 v88
  let v90 : BitVec 1 := Scalar.cmpi .ne v84 v89
  let v91 : BitVec 32 := Scalar.remsi v1 c4_i32_43
  let c0_i32_48 : BitVec 32 := 0#32
  let v92 : BitVec 1 := Scalar.cmpi .ne v91 c0_i32_48
  let v93 : BitVec 1 := Scalar.andi v90 v92
  let v79 : BitVec 32 := Scalar.divsi v1 c4_i32_43
  let c1_i32_49 : BitVec 32 := 1#32
  let v94 : BitVec 32 := Scalar.subi v79 c1_i32_49
  let v95 : BitVec 32 := Scalar.select v93 v94 v79
  let c0_i32_62 : BitVec 32 := 0#32
  let c0_i32_63 : BitVec 32 := 0#32
  ![v95.toNat, 0, 0]
def k1_cond3 (i : grid1.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c4_i32_50 : BitVec 32 := 4#32
  let v96 : BitVec 32 := Scalar.remsi v1 c4_i32_50
  let c0_i32_53 : BitVec 32 := 0#32
  let v100 : BitVec 1 := Scalar.cmpi .sgt v96 c0_i32_53
  let c3_i32_54 : BitVec 32 := 3#32
  let v101 : BitVec 1 := Scalar.cmpi .slt v96 c3_i32_54
  let v102 : BitVec 1 := Scalar.andi v100 v101
  let v103 : BitVec 32 := Scalar.extui v102
  let c0_i32_55 : BitVec 32 := 0#32
  let v104 : BitVec 1 := Scalar.cmpi .ne v103 c0_i32_55
  v104

def k1_mult1 (i : grid1.Coords) : BitVec 32 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c4_i32_50 : BitVec 32 := 4#32
  let v96 : BitVec 32 := Scalar.remsi v1 c4_i32_50
  let c14336_i32 : BitVec 32 := 14336#32
  let v108 : BitVec 32 := Scalar.muli v96 c14336_i32
  let c768_i32 : BitVec 32 := 768#32
  let v109 : BitVec 32 := Scalar.subi v108 c768_i32
  v109
def k1_off5 (i : grid1.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k1_off6 (i : grid1.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_58 : BitVec 32 := 0#32
  let c0_i32_59 : BitVec 32 := 0#32
  ![v2.toNat, 0, 0]
def k1_off7 (i : grid1.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32_44 : BitVec 32 := 0#32
  let v80 : BitVec 1 := Scalar.cmpi .sgt v1 c0_i32_44
  let v81 : BitVec 32 := Scalar.extui v80
  let c0_i32_45 : BitVec 32 := 0#32
  let v82 : BitVec 1 := Scalar.cmpi .slt v1 c0_i32_45
  let v83 : BitVec 32 := Scalar.extui v82
  let v84 : BitVec 32 := Scalar.subi v81 v83
  let c4_i32_43 : BitVec 32 := 4#32
  let c0_i32_46 : BitVec 32 := 0#32
  let v85 : BitVec 1 := Scalar.cmpi .sgt c4_i32_43 c0_i32_46
  let v86 : BitVec 32 := Scalar.extui v85
  let c0_i32_47 : BitVec 32 := 0#32
  let v87 : BitVec 1 := Scalar.cmpi .slt c4_i32_43 c0_i32_47
  let v88 : BitVec 32 := Scalar.extui v87
  let v89 : BitVec 32 := Scalar.subi v86 v88
  let v90 : BitVec 1 := Scalar.cmpi .ne v84 v89
  let v91 : BitVec 32 := Scalar.remsi v1 c4_i32_43
  let c0_i32_48 : BitVec 32 := 0#32
  let v92 : BitVec 1 := Scalar.cmpi .ne v91 c0_i32_48
  let v93 : BitVec 1 := Scalar.andi v90 v92
  let v79 : BitVec 32 := Scalar.divsi v1 c4_i32_43
  let c1_i32_49 : BitVec 32 := 1#32
  let v94 : BitVec 32 := Scalar.subi v79 c1_i32_49
  let v95 : BitVec 32 := Scalar.select v93 v94 v79
  let c0_i32_60 : BitVec 32 := 0#32
  let c4_i32_50 : BitVec 32 := 4#32
  let v96 : BitVec 32 := Scalar.remsi v1 c4_i32_50
  let c14336_i32 : BitVec 32 := 14336#32
  let v108 : BitVec 32 := Scalar.muli v96 c14336_i32
  let c768_i32 : BitVec 32 := 768#32
  let v109 : BitVec 32 := Scalar.subi v108 c768_i32
  let v110 : BitVec 32 := v109
  ![v95.toNat, 0, v110.toNat]
def k1_cond4 (i : grid1.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c4_i32_50 : BitVec 32 := 4#32
  let v96 : BitVec 32 := Scalar.remsi v1 c4_i32_50
  let c3_i32_56 : BitVec 32 := 3#32
  let v105 : BitVec 1 := Scalar.cmpi .eq v96 c3_i32_56
  let v106 : BitVec 32 := Scalar.extui v105
  let c0_i32_57 : BitVec 32 := 0#32
  let v107 : BitVec 1 := Scalar.cmpi .ne v106 c0_i32_57
  v107

def k1_off8 (i : grid1.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let v109 : Index := Scalar.indexCast v2
  let c0_59 : Index := 0#32
  let c15104 : Index := 15104#32
  ![v109.toNat, 0, 15104]
def k1_off9 (i : grid1.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k1_off10 (i : grid1.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_60 : BitVec 32 := 0#32
  let c0_i32_61 : BitVec 32 := 0#32
  ![v2.toNat, 0, 0]
def k1_off11 (i : grid1.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32_44 : BitVec 32 := 0#32
  let v80 : BitVec 1 := Scalar.cmpi .sgt v1 c0_i32_44
  let v81 : BitVec 32 := Scalar.extui v80
  let c0_i32_45 : BitVec 32 := 0#32
  let v82 : BitVec 1 := Scalar.cmpi .slt v1 c0_i32_45
  let v83 : BitVec 32 := Scalar.extui v82
  let v84 : BitVec 32 := Scalar.subi v81 v83
  let c4_i32_43 : BitVec 32 := 4#32
  let c0_i32_46 : BitVec 32 := 0#32
  let v85 : BitVec 1 := Scalar.cmpi .sgt c4_i32_43 c0_i32_46
  let v86 : BitVec 32 := Scalar.extui v85
  let c0_i32_47 : BitVec 32 := 0#32
  let v87 : BitVec 1 := Scalar.cmpi .slt c4_i32_43 c0_i32_47
  let v88 : BitVec 32 := Scalar.extui v87
  let v89 : BitVec 32 := Scalar.subi v86 v88
  let v90 : BitVec 1 := Scalar.cmpi .ne v84 v89
  let v91 : BitVec 32 := Scalar.remsi v1 c4_i32_43
  let c0_i32_48 : BitVec 32 := 0#32
  let v92 : BitVec 1 := Scalar.cmpi .ne v91 c0_i32_48
  let v93 : BitVec 1 := Scalar.andi v90 v92
  let v79 : BitVec 32 := Scalar.divsi v1 c4_i32_43
  let c1_i32_49 : BitVec 32 := 1#32
  let v94 : BitVec 32 := Scalar.subi v79 c1_i32_49
  let v95 : BitVec 32 := Scalar.select v93 v94 v79
  let c0_i32_62 : BitVec 32 := 0#32
  let c42240_i32 : BitVec 32 := 42240#32
  ![v95.toNat, 0, 42240]
def k1_cond5 (i : grid1.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_2 : BitVec 32 := 1#32
  let v8 : BitVec 32 := Scalar.addi v1 c1_i32_2
  let c8_i32 : BitVec 32 := 8#32
  let v9 : BitVec 1 := Scalar.cmpi .slt v8 c8_i32
  let v10 : BitVec 32 := Scalar.extui v9
  let c0_i32_3 : BitVec 32 := 0#32
  let v11 : BitVec 1 := Scalar.cmpi .ne v10 c0_i32_3
  v11

def k1_cond6 (i : grid1.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_43 : BitVec 32 := 1#32
  let v79 : BitVec 32 := Scalar.addi v1 c1_i32_43
  let c4_i32_51 : BitVec 32 := 4#32
  let v97 : BitVec 32 := Scalar.remsi v79 c4_i32_51
  let c0_i32_52 : BitVec 32 := 0#32
  let v98 : BitVec 1 := Scalar.cmpi .eq v97 c0_i32_52
  let v99 : BitVec 32 := Scalar.extui v98
  let c0_i32_53 : BitVec 32 := 0#32
  let v100 : BitVec 1 := Scalar.cmpi .ne v99 c0_i32_53
  v100

def k1_off12 (i : grid1.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32 : BitVec 32 := 1#32
  let v3 : BitVec 32 := Scalar.addi v1 c1_i32
  let c2_i32_0 : BitVec 32 := 2#32
  let v4 : BitVec 32 := Scalar.remsi v3 c2_i32_0
  let v110 : Index := Scalar.indexCast v4
  let c0_60 : Index := 0#32
  let c0_61 : Index := 0#32
  ![v110.toNat, 0, 0]
def k1_off13 (i : grid1.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32 : BitVec 32 := 1#32
  let v3 : BitVec 32 := Scalar.addi v1 c1_i32
  let c2_i32_0 : BitVec 32 := 2#32
  let v4 : BitVec 32 := Scalar.remsi v3 c2_i32_0
  ![v4.toNat]
def k1_off14 (i : grid1.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32 : BitVec 32 := 1#32
  let v3 : BitVec 32 := Scalar.addi v1 c1_i32
  let c2_i32_0 : BitVec 32 := 2#32
  let v4 : BitVec 32 := Scalar.remsi v3 c2_i32_0
  let c0_i32_62 : BitVec 32 := 0#32
  let c768_i32 : BitVec 32 := 768#32
  ![v4.toNat, 0, 768]
def k1_off15 (i : grid1.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_43 : BitVec 32 := 1#32
  let v79 : BitVec 32 := Scalar.addi v1 c1_i32_43
  let c0_i32_45 : BitVec 32 := 0#32
  let v81 : BitVec 1 := Scalar.cmpi .sgt v79 c0_i32_45
  let v82 : BitVec 32 := Scalar.extui v81
  let c0_i32_46 : BitVec 32 := 0#32
  let v83 : BitVec 1 := Scalar.cmpi .slt v79 c0_i32_46
  let v84 : BitVec 32 := Scalar.extui v83
  let v85 : BitVec 32 := Scalar.subi v82 v84
  let c4_i32_44 : BitVec 32 := 4#32
  let c0_i32_47 : BitVec 32 := 0#32
  let v86 : BitVec 1 := Scalar.cmpi .sgt c4_i32_44 c0_i32_47
  let v87 : BitVec 32 := Scalar.extui v86
  let c0_i32_48 : BitVec 32 := 0#32
  let v88 : BitVec 1 := Scalar.cmpi .slt c4_i32_44 c0_i32_48
  let v89 : BitVec 32 := Scalar.extui v88
  let v90 : BitVec 32 := Scalar.subi v87 v89
  let v91 : BitVec 1 := Scalar.cmpi .ne v85 v90
  let v92 : BitVec 32 := Scalar.remsi v79 c4_i32_44
  let c0_i32_49 : BitVec 32 := 0#32
  let v93 : BitVec 1 := Scalar.cmpi .ne v92 c0_i32_49
  let v94 : BitVec 1 := Scalar.andi v91 v93
  let v80 : BitVec 32 := Scalar.divsi v79 c4_i32_44
  let c1_i32_50 : BitVec 32 := 1#32
  let v95 : BitVec 32 := Scalar.subi v80 c1_i32_50
  let v96 : BitVec 32 := Scalar.select v94 v95 v80
  let c0_i32_63 : BitVec 32 := 0#32
  let c0_i32_64 : BitVec 32 := 0#32
  ![v96.toNat, 0, 0]
def k1_cond7 (i : grid1.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_43 : BitVec 32 := 1#32
  let v79 : BitVec 32 := Scalar.addi v1 c1_i32_43
  let c4_i32_51 : BitVec 32 := 4#32
  let v97 : BitVec 32 := Scalar.remsi v79 c4_i32_51
  let c0_i32_54 : BitVec 32 := 0#32
  let v101 : BitVec 1 := Scalar.cmpi .sgt v97 c0_i32_54
  let c3_i32_55 : BitVec 32 := 3#32
  let v102 : BitVec 1 := Scalar.cmpi .slt v97 c3_i32_55
  let v103 : BitVec 1 := Scalar.andi v101 v102
  let v104 : BitVec 32 := Scalar.extui v103
  let c0_i32_56 : BitVec 32 := 0#32
  let v105 : BitVec 1 := Scalar.cmpi .ne v104 c0_i32_56
  v105

def k1_mult2 (i : grid1.Coords) : BitVec 32 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_43 : BitVec 32 := 1#32
  let v79 : BitVec 32 := Scalar.addi v1 c1_i32_43
  let c4_i32_51 : BitVec 32 := 4#32
  let v97 : BitVec 32 := Scalar.remsi v79 c4_i32_51
  let c14336_i32 : BitVec 32 := 14336#32
  let v109 : BitVec 32 := Scalar.muli v97 c14336_i32
  let c768_i32 : BitVec 32 := 768#32
  let v110 : BitVec 32 := Scalar.subi v109 c768_i32
  v110
def k1_off16 (i : grid1.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32 : BitVec 32 := 1#32
  let v3 : BitVec 32 := Scalar.addi v1 c1_i32
  let c2_i32_0 : BitVec 32 := 2#32
  let v4 : BitVec 32 := Scalar.remsi v3 c2_i32_0
  ![v4.toNat]
def k1_off17 (i : grid1.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32 : BitVec 32 := 1#32
  let v3 : BitVec 32 := Scalar.addi v1 c1_i32
  let c2_i32_0 : BitVec 32 := 2#32
  let v4 : BitVec 32 := Scalar.remsi v3 c2_i32_0
  let c0_i32_59 : BitVec 32 := 0#32
  let c0_i32_60 : BitVec 32 := 0#32
  ![v4.toNat, 0, 0]
def k1_off18 (i : grid1.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_43 : BitVec 32 := 1#32
  let v79 : BitVec 32 := Scalar.addi v1 c1_i32_43
  let c0_i32_45 : BitVec 32 := 0#32
  let v81 : BitVec 1 := Scalar.cmpi .sgt v79 c0_i32_45
  let v82 : BitVec 32 := Scalar.extui v81
  let c0_i32_46 : BitVec 32 := 0#32
  let v83 : BitVec 1 := Scalar.cmpi .slt v79 c0_i32_46
  let v84 : BitVec 32 := Scalar.extui v83
  let v85 : BitVec 32 := Scalar.subi v82 v84
  let c4_i32_44 : BitVec 32 := 4#32
  let c0_i32_47 : BitVec 32 := 0#32
  let v86 : BitVec 1 := Scalar.cmpi .sgt c4_i32_44 c0_i32_47
  let v87 : BitVec 32 := Scalar.extui v86
  let c0_i32_48 : BitVec 32 := 0#32
  let v88 : BitVec 1 := Scalar.cmpi .slt c4_i32_44 c0_i32_48
  let v89 : BitVec 32 := Scalar.extui v88
  let v90 : BitVec 32 := Scalar.subi v87 v89
  let v91 : BitVec 1 := Scalar.cmpi .ne v85 v90
  let v92 : BitVec 32 := Scalar.remsi v79 c4_i32_44
  let c0_i32_49 : BitVec 32 := 0#32
  let v93 : BitVec 1 := Scalar.cmpi .ne v92 c0_i32_49
  let v94 : BitVec 1 := Scalar.andi v91 v93
  let v80 : BitVec 32 := Scalar.divsi v79 c4_i32_44
  let c1_i32_50 : BitVec 32 := 1#32
  let v95 : BitVec 32 := Scalar.subi v80 c1_i32_50
  let v96 : BitVec 32 := Scalar.select v94 v95 v80
  let c0_i32_61 : BitVec 32 := 0#32
  let c4_i32_51 : BitVec 32 := 4#32
  let v97 : BitVec 32 := Scalar.remsi v79 c4_i32_51
  let c14336_i32 : BitVec 32 := 14336#32
  let v109 : BitVec 32 := Scalar.muli v97 c14336_i32
  let c768_i32 : BitVec 32 := 768#32
  let v110 : BitVec 32 := Scalar.subi v109 c768_i32
  let v111 : BitVec 32 := v110
  ![v96.toNat, 0, v111.toNat]
def k1_cond8 (i : grid1.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_43 : BitVec 32 := 1#32
  let v79 : BitVec 32 := Scalar.addi v1 c1_i32_43
  let c4_i32_51 : BitVec 32 := 4#32
  let v97 : BitVec 32 := Scalar.remsi v79 c4_i32_51
  let c3_i32_57 : BitVec 32 := 3#32
  let v106 : BitVec 1 := Scalar.cmpi .eq v97 c3_i32_57
  let v107 : BitVec 32 := Scalar.extui v106
  let c0_i32_58 : BitVec 32 := 0#32
  let v108 : BitVec 1 := Scalar.cmpi .ne v107 c0_i32_58
  v108

def k1_off19 (i : grid1.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32 : BitVec 32 := 1#32
  let v3 : BitVec 32 := Scalar.addi v1 c1_i32
  let c2_i32_0 : BitVec 32 := 2#32
  let v4 : BitVec 32 := Scalar.remsi v3 c2_i32_0
  let v110 : Index := Scalar.indexCast v4
  let c0_60 : Index := 0#32
  let c15104 : Index := 15104#32
  ![v110.toNat, 0, 15104]
def k1_off20 (i : grid1.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32 : BitVec 32 := 1#32
  let v3 : BitVec 32 := Scalar.addi v1 c1_i32
  let c2_i32_0 : BitVec 32 := 2#32
  let v4 : BitVec 32 := Scalar.remsi v3 c2_i32_0
  ![v4.toNat]
def k1_off21 (i : grid1.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32 : BitVec 32 := 1#32
  let v3 : BitVec 32 := Scalar.addi v1 c1_i32
  let c2_i32_0 : BitVec 32 := 2#32
  let v4 : BitVec 32 := Scalar.remsi v3 c2_i32_0
  let c0_i32_61 : BitVec 32 := 0#32
  let c0_i32_62 : BitVec 32 := 0#32
  ![v4.toNat, 0, 0]
def k1_off22 (i : grid1.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_43 : BitVec 32 := 1#32
  let v79 : BitVec 32 := Scalar.addi v1 c1_i32_43
  let c0_i32_45 : BitVec 32 := 0#32
  let v81 : BitVec 1 := Scalar.cmpi .sgt v79 c0_i32_45
  let v82 : BitVec 32 := Scalar.extui v81
  let c0_i32_46 : BitVec 32 := 0#32
  let v83 : BitVec 1 := Scalar.cmpi .slt v79 c0_i32_46
  let v84 : BitVec 32 := Scalar.extui v83
  let v85 : BitVec 32 := Scalar.subi v82 v84
  let c4_i32_44 : BitVec 32 := 4#32
  let c0_i32_47 : BitVec 32 := 0#32
  let v86 : BitVec 1 := Scalar.cmpi .sgt c4_i32_44 c0_i32_47
  let v87 : BitVec 32 := Scalar.extui v86
  let c0_i32_48 : BitVec 32 := 0#32
  let v88 : BitVec 1 := Scalar.cmpi .slt c4_i32_44 c0_i32_48
  let v89 : BitVec 32 := Scalar.extui v88
  let v90 : BitVec 32 := Scalar.subi v87 v89
  let v91 : BitVec 1 := Scalar.cmpi .ne v85 v90
  let v92 : BitVec 32 := Scalar.remsi v79 c4_i32_44
  let c0_i32_49 : BitVec 32 := 0#32
  let v93 : BitVec 1 := Scalar.cmpi .ne v92 c0_i32_49
  let v94 : BitVec 1 := Scalar.andi v91 v93
  let v80 : BitVec 32 := Scalar.divsi v79 c4_i32_44
  let c1_i32_50 : BitVec 32 := 1#32
  let v95 : BitVec 32 := Scalar.subi v80 c1_i32_50
  let v96 : BitVec 32 := Scalar.select v94 v95 v80
  let c0_i32_63 : BitVec 32 := 0#32
  let c42240_i32 : BitVec 32 := 42240#32
  ![v96.toNat, 0, 42240]
def k1_cond9 (i : grid1.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c4_i32_11 : BitVec 32 := 4#32
  let v29 : BitVec 32 := Scalar.remsi v1 c4_i32_11
  let c0_i32_12 : BitVec 32 := 0#32
  let v30 : BitVec 1 := Scalar.cmpi .eq v29 c0_i32_12
  let v31 : BitVec 32 := Scalar.extui v30
  let c0_i32_13 : BitVec 32 := 0#32
  let v32 : BitVec 1 := Scalar.cmpi .ne v31 c0_i32_13
  v32

def k1_off23 (i : grid1.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k1_off24 (i : grid1.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_43 : BitVec 32 := 0#32
  let c768_i32 : BitVec 32 := 768#32
  ![v2.toNat, 0, 768]
def k1_off25 (i : grid1.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c4_i32_4 : BitVec 32 := 4#32
  let c0_i32_7 : BitVec 32 := 0#32
  let v18 : BitVec 1 := Scalar.cmpi .sgt c4_i32_4 c0_i32_7
  let v19 : BitVec 32 := Scalar.extui v18
  let c0_i32_8 : BitVec 32 := 0#32
  let v20 : BitVec 1 := Scalar.cmpi .slt c4_i32_4 c0_i32_8
  let v21 : BitVec 32 := Scalar.extui v20
  let v22 : BitVec 32 := Scalar.subi v19 v21
  let v23 : BitVec 1 := Scalar.cmpi .ne v17 v22
  let v24 : BitVec 32 := Scalar.remsi v1 c4_i32_4
  let c0_i32_9 : BitVec 32 := 0#32
  let v25 : BitVec 1 := Scalar.cmpi .ne v24 c0_i32_9
  let v26 : BitVec 1 := Scalar.andi v23 v25
  let v12 : BitVec 32 := Scalar.divsi v1 c4_i32_4
  let c1_i32_10 : BitVec 32 := 1#32
  let v27 : BitVec 32 := Scalar.subi v12 c1_i32_10
  let v28 : BitVec 32 := Scalar.select v26 v27 v12
  let c0_i32_44 : BitVec 32 := 0#32
  let c0_i32_45 : BitVec 32 := 0#32
  ![v28.toNat, 0, 0]
def k1_cond10 (i : grid1.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c4_i32_11 : BitVec 32 := 4#32
  let v29 : BitVec 32 := Scalar.remsi v1 c4_i32_11
  let c0_i32_14 : BitVec 32 := 0#32
  let v33 : BitVec 1 := Scalar.cmpi .sgt v29 c0_i32_14
  let c3_i32 : BitVec 32 := 3#32
  let v34 : BitVec 1 := Scalar.cmpi .slt v29 c3_i32
  let v35 : BitVec 1 := Scalar.andi v33 v34
  let v36 : BitVec 32 := Scalar.extui v35
  let c0_i32_15 : BitVec 32 := 0#32
  let v37 : BitVec 1 := Scalar.cmpi .ne v36 c0_i32_15
  v37

def k1_mult3 (i : grid1.Coords) : BitVec 32 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c4_i32_11 : BitVec 32 := 4#32
  let v29 : BitVec 32 := Scalar.remsi v1 c4_i32_11
  let c14336_i32 : BitVec 32 := 14336#32
  let v79 : BitVec 32 := Scalar.muli v29 c14336_i32
  let c768_i32 : BitVec 32 := 768#32
  let v80 : BitVec 32 := Scalar.subi v79 c768_i32
  v80
def k1_off26 (i : grid1.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k1_off27 (i : grid1.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_43 : BitVec 32 := 0#32
  let c0_i32_44 : BitVec 32 := 0#32
  ![v2.toNat, 0, 0]
def k1_off28 (i : grid1.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c4_i32_4 : BitVec 32 := 4#32
  let c0_i32_7 : BitVec 32 := 0#32
  let v18 : BitVec 1 := Scalar.cmpi .sgt c4_i32_4 c0_i32_7
  let v19 : BitVec 32 := Scalar.extui v18
  let c0_i32_8 : BitVec 32 := 0#32
  let v20 : BitVec 1 := Scalar.cmpi .slt c4_i32_4 c0_i32_8
  let v21 : BitVec 32 := Scalar.extui v20
  let v22 : BitVec 32 := Scalar.subi v19 v21
  let v23 : BitVec 1 := Scalar.cmpi .ne v17 v22
  let v24 : BitVec 32 := Scalar.remsi v1 c4_i32_4
  let c0_i32_9 : BitVec 32 := 0#32
  let v25 : BitVec 1 := Scalar.cmpi .ne v24 c0_i32_9
  let v26 : BitVec 1 := Scalar.andi v23 v25
  let v12 : BitVec 32 := Scalar.divsi v1 c4_i32_4
  let c1_i32_10 : BitVec 32 := 1#32
  let v27 : BitVec 32 := Scalar.subi v12 c1_i32_10
  let v28 : BitVec 32 := Scalar.select v26 v27 v12
  let c0_i32_45 : BitVec 32 := 0#32
  let c4_i32_11 : BitVec 32 := 4#32
  let v29 : BitVec 32 := Scalar.remsi v1 c4_i32_11
  let c14336_i32 : BitVec 32 := 14336#32
  let v79 : BitVec 32 := Scalar.muli v29 c14336_i32
  let c768_i32 : BitVec 32 := 768#32
  let v80 : BitVec 32 := Scalar.subi v79 c768_i32
  let v81 : BitVec 32 := v80
  ![v28.toNat, 0, v81.toNat]
def k1_cond11 (i : grid1.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c4_i32_11 : BitVec 32 := 4#32
  let v29 : BitVec 32 := Scalar.remsi v1 c4_i32_11
  let c3_i32_16 : BitVec 32 := 3#32
  let v38 : BitVec 1 := Scalar.cmpi .eq v29 c3_i32_16
  let v39 : BitVec 32 := Scalar.extui v38
  let c0_i32_17 : BitVec 32 := 0#32
  let v40 : BitVec 1 := Scalar.cmpi .ne v39 c0_i32_17
  v40

def k1_off29 (i : grid1.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k1_off30 (i : grid1.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_43 : BitVec 32 := 0#32
  let c0_i32_44 : BitVec 32 := 0#32
  ![v2.toNat, 0, 0]
def k1_off31 (i : grid1.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c4_i32_4 : BitVec 32 := 4#32
  let c0_i32_7 : BitVec 32 := 0#32
  let v18 : BitVec 1 := Scalar.cmpi .sgt c4_i32_4 c0_i32_7
  let v19 : BitVec 32 := Scalar.extui v18
  let c0_i32_8 : BitVec 32 := 0#32
  let v20 : BitVec 1 := Scalar.cmpi .slt c4_i32_4 c0_i32_8
  let v21 : BitVec 32 := Scalar.extui v20
  let v22 : BitVec 32 := Scalar.subi v19 v21
  let v23 : BitVec 1 := Scalar.cmpi .ne v17 v22
  let v24 : BitVec 32 := Scalar.remsi v1 c4_i32_4
  let c0_i32_9 : BitVec 32 := 0#32
  let v25 : BitVec 1 := Scalar.cmpi .ne v24 c0_i32_9
  let v26 : BitVec 1 := Scalar.andi v23 v25
  let v12 : BitVec 32 := Scalar.divsi v1 c4_i32_4
  let c1_i32_10 : BitVec 32 := 1#32
  let v27 : BitVec 32 := Scalar.subi v12 c1_i32_10
  let v28 : BitVec 32 := Scalar.select v26 v27 v12
  let c0_i32_45 : BitVec 32 := 0#32
  let c42240_i32 : BitVec 32 := 42240#32
  ![v28.toNat, 0, 42240]
def k1_off32 (i : grid1.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let v41 : Index := Scalar.indexCast v2
  let c0 : Index := 0#32
  let c0_18 : Index := 0#32
  ![v41.toNat, 0, 0]
def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage1_0 : Fin 2 → Memref sig .tc .vmem S1x5x96x480 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x96x56x224 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]
-- ==== ReferenceIdeal.lean ====
abbrev S2x96x224x224 : Shape := ⟨4, ![2, 96, 224, 224]⟩
abbrev S96x4 : Shape := ⟨2, ![96, 4]⟩
abbrev S96x96x3x3 : Shape := ⟨4, ![96, 96, 3, 3]⟩
abbrev S96x96x24 : Shape := ⟨3, ![96, 96, 24]⟩
abbrev S96x288x1x1 : Shape := ⟨4, ![96, 288, 1, 1]⟩
abbrev S96x96x1x1 : Shape := ⟨4, ![96, 96, 1, 1]⟩
abbrev S3x5x5 : Shape := ⟨3, ![3, 5, 5]⟩
abbrev S1x3x3 : Shape := ⟨3, ![1, 3, 3]⟩
abbrev S_ : Shape := ⟨0, ![]⟩
abbrev S2x96 : Shape := ⟨2, ![2, 96]⟩
abbrev S2x4 : Shape := ⟨2, ![2, 4]⟩
abbrev S2x1 : Shape := ⟨2, ![2, 1]⟩
abbrev S2 : Shape := ⟨1, ![2]⟩
abbrev S2x1x1 : Shape := ⟨3, ![2, 1, 1]⟩
abbrev S2x1x2 : Shape := ⟨3, ![2, 1, 2]⟩
abbrev S4 : Shape := ⟨1, ![4]⟩
abbrev S1 : Shape := ⟨1, ![1]⟩
abbrev S2x96x226x226 : Shape := ⟨4, ![2, 96, 226, 226]⟩
abbrev S2x96x224x226 : Shape := ⟨4, ![2, 96, 224, 226]⟩
abbrev S2x96x1x224x226 : Shape := ⟨5, ![2, 96, 1, 224, 226]⟩
abbrev S2x96x3x224x226 : Shape := ⟨5, ![2, 96, 3, 224, 226]⟩
abbrev S2x96x3x224x224 : Shape := ⟨5, ![2, 96, 3, 224, 224]⟩
abbrev S2x96x3x1x224x224 : Shape := ⟨6, ![2, 96, 3, 1, 224, 224]⟩
abbrev S2x96x3x3x224x224 : Shape := ⟨6, ![2, 96, 3, 3, 224, 224]⟩
abbrev S2x96x228x228 : Shape := ⟨4, ![2, 96, 228, 228]⟩
abbrev S2x96x224x228 : Shape := ⟨4, ![2, 96, 224, 228]⟩
abbrev S2x96x1x224x228 : Shape := ⟨5, ![2, 96, 1, 224, 228]⟩
abbrev S2x96x5x224x228 : Shape := ⟨5, ![2, 96, 5, 224, 228]⟩
abbrev S2x96x5x224x224 : Shape := ⟨5, ![2, 96, 5, 224, 224]⟩
abbrev S2x96x5x1x224x224 : Shape := ⟨6, ![2, 96, 5, 1, 224, 224]⟩
abbrev S2x96x5x5x224x224 : Shape := ⟨6, ![2, 96, 5, 5, 224, 224]⟩
abbrev S2x224x224x96 : Shape := ⟨4, ![2, 224, 224, 96]⟩
abbrev S96x96 : Shape := ⟨2, ![96, 96]⟩
abbrev S96x96x1 : Shape := ⟨3, ![96, 96, 1]⟩
abbrev S96x96x12 : Shape := ⟨3, ![96, 96, 12]⟩
abbrev S96x96x25 : Shape := ⟨3, ![96, 96, 25]⟩
abbrev S96x96x5x5 : Shape := ⟨4, ![96, 96, 5, 5]⟩
abbrev S2x96x224x224x3 : Shape := ⟨5, ![2, 96, 224, 224, 3]⟩
abbrev S2x288x224x224 : Shape := ⟨4, ![2, 288, 224, 224]⟩
abbrev S96x288 : Shape := ⟨2, ![96, 288]⟩
abbrev S2x96x224x224x1 : Shape := ⟨5, ![2, 96, 224, 224, 1]⟩
abbrev S2x96x1x224x224 : Shape := ⟨5, ![2, 96, 1, 224, 224]⟩
abbrev S2x1x1x1 : Shape := ⟨4, ![2, 1, 1, 1]⟩

abbrev nBuf : Space → Nat
  | .hbm => 192
  | .vmem => 0
  | .smem => 0
  | _ => 0

abbrev hbmTy0_0 (i : Nat) : BufTy := match i % 128 with
  | 0 => ⟨S2x96x224x224, .f32⟩
  | 1 => ⟨S96x4, .f32⟩
  | 2 => ⟨S96x96x3x3, .f32⟩
  | 3 => ⟨S96x96x24, .f32⟩
  | 4 => ⟨S96x288x1x1, .f32⟩
  | 5 => ⟨S96x96x1x1, .f32⟩
  | 6 => ⟨S96x96x3x3, .f32⟩
  | 7 => ⟨S3x5x5, .f32⟩
  | 8 => ⟨S1x3x3, .f32⟩
  | 9 => ⟨S_, .f32⟩
  | 10 => ⟨S2x96, .f32⟩
  | 11 => ⟨S_, .f32⟩
  | 12 => ⟨S2x96, .f32⟩
  | 13 => ⟨S2x96, .f32⟩
  | 14 => ⟨S2x4, .f32⟩
  | 15 => ⟨S2x1, .f32⟩
  | 16 => ⟨S2x1, .i32⟩
  | 17 => ⟨S_, .f32⟩
  | 18 => ⟨S2, .f32⟩
  | 19 => ⟨S_, .f32⟩
  | 20 => ⟨S2, .f32⟩
  | 21 => ⟨S2, .f32⟩
  | 22 => ⟨S2x1, .f32⟩
  | 23 => ⟨S2x1, .f32⟩
  | 24 => ⟨S2x1, .f32⟩
  | 25 => ⟨S_, .f32⟩
  | 26 => ⟨S2, .f32⟩
  | 27 => ⟨S2x1, .f32⟩
  | 28 => ⟨S2x1, .f32⟩
  | 29 => ⟨S_, .f32⟩
  | 30 => ⟨S2x4, .f32⟩
  | 31 => ⟨S2, .i32⟩
  | 32 => ⟨S2x1, .i32⟩
  | 33 => ⟨S_, .i32⟩
  | 34 => ⟨S2x1, .i32⟩
  | 35 => ⟨S2x1, .i1⟩
  | 36 => ⟨S_, .i32⟩
  | 37 => ⟨S2x1, .i32⟩
  | 38 => ⟨S2x1, .i32⟩
  | 39 => ⟨S2x1, .i32⟩
  | 40 => ⟨S_, .i32⟩
  | 41 => ⟨S2x1, .i32⟩
  | 42 => ⟨S2x1, .i1⟩
  | 43 => ⟨S_, .i32⟩
  | 44 => ⟨S2x1, .i32⟩
  | 45 => ⟨S2x1, .i32⟩
  | 46 => ⟨S2x1, .i32⟩
  | 47 => ⟨S2x1x1, .i32⟩
  | 48 => ⟨S2x1x1, .i32⟩
  | 49 => ⟨S2x1x2, .i32⟩
  | 50 => ⟨S2x4, .f32⟩
  | 51 => ⟨S_, .f32⟩
  | 52 => ⟨S2x4, .f32⟩
  | 53 => ⟨S2x4, .i1⟩
  | 54 => ⟨S2x4, .i32⟩
  | 55 => ⟨S_, .i32⟩
  | 56 => ⟨S4, .i32⟩
  | 57 => ⟨S_, .f32⟩
  | 58 => ⟨S4, .f32⟩
  | 59 => ⟨S_, .f32⟩
  | 60 => ⟨S_, .f32⟩
  | 61 => ⟨S_, .f32⟩
  | 62 => ⟨S_, .f32⟩
  | 63 => ⟨S_, .i32⟩
  | 64 => ⟨S_, .f32⟩
  | 65 => ⟨S_, .f32⟩
  | 66 => ⟨S1, .f32⟩
  | 67 => ⟨S_, .f32⟩
  | 68 => ⟨S1, .f32⟩
  | 69 => ⟨S1, .f32⟩
  | 70 => ⟨S4, .f32⟩
  | 71 => ⟨S4, .f32⟩
  | 72 => ⟨S4, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .i1⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .i32⟩
  | 89 => ⟨S_, .f32⟩
  | 90 => ⟨S2x96x226x226, .f32⟩
  | 91 => ⟨S2x96x224x226, .f32⟩
  | 92 => ⟨S2x96x224x226, .f32⟩
  | 93 => ⟨S2x96x224x226, .f32⟩
  | 94 => ⟨S2x96x1x224x226, .f32⟩
  | 95 => ⟨S2x96x1x224x226, .f32⟩
  | 96 => ⟨S2x96x1x224x226, .f32⟩
  | 97 => ⟨S2x96x3x224x226, .f32⟩
  | 98 => ⟨S2x96x3x224x224, .f32⟩
  | 99 => ⟨S2x96x3x224x224, .f32⟩
  | 100 => ⟨S2x96x3x224x224, .f32⟩
  | 101 => ⟨S2x96x3x1x224x224, .f32⟩
  | 102 => ⟨S2x96x3x1x224x224, .f32⟩
  | 103 => ⟨S2x96x3x1x224x224, .f32⟩
  | 104 => ⟨S2x96x3x3x224x224, .f32⟩
  | 105 => ⟨S_, .i32⟩
  | 106 => ⟨S_, .f32⟩
  | 107 => ⟨S2x96x228x228, .f32⟩
  | 108 => ⟨S2x96x224x228, .f32⟩
  | 109 => ⟨S2x96x224x228, .f32⟩
  | 110 => ⟨S2x96x224x228, .f32⟩
  | 111 => ⟨S2x96x224x228, .f32⟩
  | 112 => ⟨S2x96x224x228, .f32⟩
  | 113 => ⟨S2x96x1x224x228, .f32⟩
  | 114 => ⟨S2x96x1x224x228, .f32⟩
  | 115 => ⟨S2x96x1x224x228, .f32⟩
  | 116 => ⟨S2x96x1x224x228, .f32⟩
  | 117 => ⟨S2x96x1x224x228, .f32⟩
  | 118 => ⟨S2x96x5x224x228, .f32⟩
  | 119 => ⟨S2x96x5x224x224, .f32⟩
  | 120 => ⟨S2x96x5x224x224, .f32⟩
  | 121 => ⟨S2x96x5x224x224, .f32⟩
  | 122 => ⟨S2x96x5x224x224, .f32⟩
  | 123 => ⟨S2x96x5x224x224, .f32⟩
  | 124 => ⟨S2x96x5x1x224x224, .f32⟩
  | 125 => ⟨S2x96x5x1x224x224, .f32⟩
  | 126 => ⟨S2x96x5x1x224x224, .f32⟩
  | 127 => ⟨S2x96x5x1x224x224, .f32⟩
  | _ => ⟨S2x96x224x224, .f32⟩

abbrev hbmTy0_1 (i : Nat) : BufTy := match i % 128 with
  | 0 => ⟨S2x96x5x1x224x224, .f32⟩
  | 1 => ⟨S2x96x5x5x224x224, .f32⟩
  | 2 => ⟨S2x224x224x96, .f32⟩
  | 3 => ⟨S2x96x224x224, .f32⟩
  | 4 => ⟨S_, .f32⟩
  | 5 => ⟨S96x96, .f32⟩
  | 6 => ⟨S2x224x224x96, .f32⟩
  | 7 => ⟨S2x96x224x224, .f32⟩
  | 8 => ⟨S_, .f32⟩
  | 9 => ⟨S2x96x224x224, .f32⟩
  | 10 => ⟨S2x96x224x224, .f32⟩
  | 11 => ⟨S2x96x224x224, .f32⟩
  | 12 => ⟨S_, .f32⟩
  | 13 => ⟨S96x96, .f32⟩
  | 14 => ⟨S96x96x1, .f32⟩
  | 15 => ⟨S96x96x24, .f32⟩
  | 16 => ⟨S96x96x24, .f32⟩
  | 17 => ⟨S96x96x12, .f32⟩
  | 18 => ⟨S_, .f32⟩
  | 19 => ⟨S96x96x1, .f32⟩
  | 20 => ⟨S96x96x1, .f32⟩
  | 21 => ⟨S96x96x12, .f32⟩
  | 22 => ⟨S96x96x25, .f32⟩
  | 23 => ⟨S96x96x5x5, .f32⟩
  | 24 => ⟨S2x224x224x96, .f32⟩
  | 25 => ⟨S2x96x224x224, .f32⟩
  | 26 => ⟨S2x96x224x224x3, .f32⟩
  | 27 => ⟨S2x96x3x224x224, .f32⟩
  | 28 => ⟨S2x288x224x224, .f32⟩
  | 29 => ⟨S96x288, .f32⟩
  | 30 => ⟨S2x224x224x96, .f32⟩
  | 31 => ⟨S2x96x224x224, .f32⟩
  | 32 => ⟨S2x96x224x224x1, .f32⟩
  | 33 => ⟨S2x96x1x224x224, .f32⟩
  | 34 => ⟨S2x96x224x224, .f32⟩
  | 35 => ⟨S96x96, .f32⟩
  | 36 => ⟨S2x224x224x96, .f32⟩
  | 37 => ⟨S2x96x224x224, .f32⟩
  | 38 => ⟨S2x224x224x96, .f32⟩
  | 39 => ⟨S2x96x224x224, .f32⟩
  | 40 => ⟨S2x1, .f32⟩
  | 41 => ⟨S2, .f32⟩
  | 42 => ⟨S2x1x1x1, .f32⟩
  | 43 => ⟨S2x96x224x224, .f32⟩
  | 44 => ⟨S2x96x224x224, .f32⟩
  | 45 => ⟨S2x96x224x224, .f32⟩
  | 46 => ⟨S2x1, .f32⟩
  | 47 => ⟨S2, .f32⟩
  | 48 => ⟨S2x1x1x1, .f32⟩
  | 49 => ⟨S2x96x224x224, .f32⟩
  | 50 => ⟨S2x96x224x224, .f32⟩
  | 51 => ⟨S2x96x224x224, .f32⟩
  | 52 => ⟨S2x1, .f32⟩
  | 53 => ⟨S2, .f32⟩
  | 54 => ⟨S2x1x1x1, .f32⟩
  | 55 => ⟨S2x96x224x224, .f32⟩
  | 56 => ⟨S2x96x224x224, .f32⟩
  | 57 => ⟨S2x96x224x224, .f32⟩
  | 58 => ⟨S2x1, .f32⟩
  | 59 => ⟨S2, .f32⟩
  | 60 => ⟨S2x1x1x1, .f32⟩
  | 61 => ⟨S2x96x224x224, .f32⟩
  | 62 => ⟨S2x96x224x224, .f32⟩
  | 63 => ⟨S2x96x224x224, .f32⟩
  | _ => ⟨S2x96x224x224, .f32⟩

abbrev hbmTy (i : Nat) : BufTy := match i / 128 with
  | 0 => hbmTy0_0 i
  | 1 => hbmTy0_1 i
  | _ => ⟨S2x96x224x224, .f32⟩

abbrev bufTy : (tb : Table) → Fin (tcTables nBuf tb) → BufTy
  | .hbm, ⟨i, _⟩ => hbmTy i
  | _, _ => ⟨S2x96x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_cst_1 : Ref sig .tc := ⟨.hbm, 9, rfl⟩
abbrev main_v0 : Ref sig .tc := ⟨.hbm, 10, rfl⟩
abbrev main_cst_2 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_values : Ref sig .tc := ⟨.hbm, 15, rfl⟩
abbrev main_indices : Ref sig .tc := ⟨.hbm, 16, rfl⟩
abbrev main_cst_3 : Ref sig .tc := ⟨.hbm, 17, rfl⟩
abbrev main_v4 : Ref sig .tc := ⟨.hbm, 18, rfl⟩
abbrev main_cst_4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_5 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_6 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_7 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_8 : Ref sig .tc := ⟨.hbm, 40, rfl⟩
abbrev main_v21 : Ref sig .tc := ⟨.hbm, 41, rfl⟩
abbrev main_v22 : Ref sig .tc := ⟨.hbm, 42, rfl⟩
abbrev main_c_9 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_10 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_11 : Ref sig .tc := ⟨.hbm, 55, rfl⟩
abbrev main_v33 : Ref sig .tc := ⟨.hbm, 56, rfl⟩
abbrev main_cst_12 : Ref sig .tc := ⟨.hbm, 57, rfl⟩
abbrev main_v34 : Ref sig .tc := ⟨.hbm, 58, rfl⟩
abbrev main_cst_13 : Ref sig .tc := ⟨.hbm, 59, rfl⟩
abbrev main_v35 : Ref sig .tc := ⟨.hbm, 60, rfl⟩
abbrev main_cst_14 : Ref sig .tc := ⟨.hbm, 61, rfl⟩
abbrev main_v36 : Ref sig .tc := ⟨.hbm, 62, rfl⟩
abbrev main_c_15 : Ref sig .tc := ⟨.hbm, 63, rfl⟩
abbrev main_call0_cst : Ref sig .tc := ⟨.hbm, 64, rfl⟩
abbrev main_call0_v0 : Ref sig .tc := ⟨.hbm, 65, rfl⟩
abbrev main_call0_v1 : Ref sig .tc := ⟨.hbm, 66, rfl⟩
abbrev main_call0_cst_0 : Ref sig .tc := ⟨.hbm, 67, rfl⟩
abbrev main_call0_v2 : Ref sig .tc := ⟨.hbm, 68, rfl⟩
abbrev main_call0_v3 : Ref sig .tc := ⟨.hbm, 69, rfl⟩
abbrev main_call0_v4 : Ref sig .tc := ⟨.hbm, 70, rfl⟩
abbrev main_call0_v5 : Ref sig .tc := ⟨.hbm, 71, rfl⟩
abbrev main_call0_v6 : Ref sig .tc := ⟨.hbm, 72, rfl⟩
abbrev main_call0_v7 : Ref sig .tc := ⟨.hbm, 73, rfl⟩
abbrev main_call0_cst_1 : Ref sig .tc := ⟨.hbm, 74, rfl⟩
abbrev main_call0_v8 : Ref sig .tc := ⟨.hbm, 75, rfl⟩
abbrev main_call0_cst_2 : Ref sig .tc := ⟨.hbm, 76, rfl⟩
abbrev main_call0_v9 : Ref sig .tc := ⟨.hbm, 77, rfl⟩
abbrev main_call0_v10 : Ref sig .tc := ⟨.hbm, 78, rfl⟩
abbrev main_call0_cst_3 : Ref sig .tc := ⟨.hbm, 79, rfl⟩
abbrev main_call0_v11 : Ref sig .tc := ⟨.hbm, 80, rfl⟩
abbrev main_call0_cst_4 : Ref sig .tc := ⟨.hbm, 81, rfl⟩
abbrev main_call0_call0_v0 : Ref sig .tc := ⟨.hbm, 82, rfl⟩
abbrev main_v37 : Ref sig .tc := ⟨.hbm, 83, rfl⟩
abbrev main_v38 : Ref sig .tc := ⟨.hbm, 84, rfl⟩
abbrev main_cst_16 : Ref sig .tc := ⟨.hbm, 85, rfl⟩
abbrev main_v39 : Ref sig .tc := ⟨.hbm, 86, rfl⟩
abbrev main_v40 : Ref sig .tc := ⟨.hbm, 87, rfl⟩
abbrev main_c_17 : Ref sig .tc := ⟨.hbm, 88, rfl⟩
abbrev main_call1_v0 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_c_18 : Ref sig .tc := ⟨.hbm, 105, rfl⟩
abbrev main_call2_v0 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_cst_19 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_cst_20 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_cst_21 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_cst_22 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩

abbrev nD : Nat := 1
abbrev τ : Topo := Topo.v7x

variable {F : FTy → Type} [FloatOps F]
-- ==== Proof.OwnsSteps.lean ====
/-
  Loads and stores through a memref owned whole: what a load of a rectangle returns, and what a store of all of it leaves.
-/
module

public import Idealize.ShloMosaic.Lib.Pipeline.FrameBody
public import Idealize.ShloMosaic.Lib.Tactic

@[expose] public section

noncomputable section

namespace Cert.OwnsSteps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {U : Type} [URA U] {Λ : Labels}
variable {defs : Defs nD τ sig Val Λ} (𝒱 : Variants) (c : Dev nD) {α : Type} {Q : α → sProp (MT nD τ sig Unit Val ℕ U ℕ)}
variable {s : Shape} {e : EltTy}

/-- A load of a rectangle returns the owned contents at the rectangle's own indices. -/
theorem wp_load_owns {m : Memref sig .tc .vmem s e} {r : Rect s} {hl : m.view.LoadsAt r.toLoadRect}
    {k : (r.shape.Idx → Val e) → Prog (TpuEff nD τ sig Val Λ .tc) α} {q : PosShare TreeShare} {X : s.Idx → Val e}
    (w : r.shape.Idx → Val e) (hw : (fun y => X (r.emb y)) = w) :
    (owns (c : Thread nD τ) m q X : sProp (MT nD τ sig Unit Val ℕ U ℕ))
      ⊢ iprop((owns (c : Thread nD τ) m q X -∗ wp frame (wpE defs 𝒱 (c : Thread nD τ) none) Set.univ (k w) Q)
        -∗ wp frame (wpE defs 𝒱 (c : Thread nD τ) none) Set.univ (.op (.load m r.toLoadRect hl) k) Q) := by
  unfold owns
  iintro ⟨%f, %hf, H⟩ Hk
  iapply (wp_load_rect 𝒱 (c : Thread nD τ) none Set.univ (m := m) (r := r) (S := m.view.set) (View.set_slice_subset _ r)) $$ H
  iintro H
  rw [show (m.access r).read Val f = w from by subst hf; exact hw]
  iapply Hk
  iexists f
  isplitr
  · ipureintro; exact hf
  iexact H

/-- A store of all of a memref leaves the stored contents. -/
theorem wp_store_owns {m : Memref sig .tc .vmem s e} {off : Fin s.rank → ℕ} (hoff : ∀ a, off a = 0) {inb : ∀ a, off a + s.size a ≤ s.size a}
    {w : s.Idx → Val e} {hx} {hm} {k : PUnit → Prog (TpuEff nD τ sig Val Λ .tc) α} {X : s.Idx → Val e} :
    (owns (c : Thread nD τ) m fullShare X : sProp (MT nD τ sig Unit Val ℕ U ℕ))
      ⊢ iprop((owns (c : Thread nD τ) m fullShare w -∗ wp frame (wpE defs 𝒱 (c : Thread nD τ) none) Set.univ (k ⟨⟩) Q)
        -∗ wp frame (wpE defs 𝒱 (c : Thread nD τ) none) Set.univ (.op (.store m (Rect.unit off s.size inb) w Finset.univ hx hm) k) Q) := by
  unfold owns
  iintro ⟨%f, %hf, H⟩ Hk
  iapply (wp_store 𝒱 (c : Thread nD τ) none Set.univ (m := m) (r := Rect.unit off s.size inb) (w := w) (S := m.view.set)
    (View.set_slice_subset _ (Rect.unit off s.size inb))) $$ H
  iintro H
  iapply Hk
  iexists _
  isplitr; swap
  · iexact H
  ipureintro
  funext x
  have hemb : (Rect.unit off s.size inb).emb x = x := by
    funext a; apply Fin.ext
    rw [Rect.emb_apply]; show off a + 1 * (x a : ℕ) = _; rw [hoff a]; omega
  have h := congrFun (View.read_write_univ (v := m.access (Rect.unit off s.size inb)) (Val := Val) f w) x
  rw [View.read_apply] at h ⊢
  rw [show (m.access (Rect.unit off s.size inb)).emb x = m.view.emb x from congrArg m.view.emb hemb] at h
  exact h

/-- Reading contents at all of their own indices is reading them. -/
theorem read_whole {s : Shape} {α : Type} (X : s.Idx → α) {off : Fin s.rank → ℕ} (hoff : ∀ a, off a = 0) {inb : ∀ a, off a + s.size a ≤ s.size a} :
    (fun y : (Rect.unit off s.size inb).shape.Idx => X ((Rect.unit off s.size inb).emb y)) = X := by
  funext y
  have hemb : (Rect.unit off s.size inb).emb y = y := by
    funext a; apply Fin.ext
    rw [Rect.emb_apply]; show off a + 1 * (y a : ℕ) = _; rw [hoff a]; omega
  exact congrArg X hemb

end Cert.OwnsSteps
-- ==== Proof.PrepBody.lean ====
/-
  One grid step of the preparing kernel: the strip of the image it narrows, and the sums it adds to the pool.
-/
module

public import proofs.«01_k».proof.Proof.OwnsSteps
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.ValueKit
public import Idealize.ShloMosaic.Lib.Pointwise
public import Idealize.ShloMosaic.Lib.Ring
public import Idealize.ShloMosaic.Lib.Transfers
public import Idealize.ShloMosaic.Lib.Pipeline.Value
public import Idealize.ShloMosaic.Lib.Tactic

@[expose] public section

set_option maxRecDepth 16384

noncomputable section

namespace Cert.KernelIdeal.Prep

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The assertions of the proof: the pipeline's resources beside the transfers' counters. -/
local notation "𝕄" => MT nD τ sig Unit (Elt F) ℕ (Pipeline.UD sig nD τ) ℕ

open Idealize.ShloMosaic.Pipeline (Dat BodyObligation)

variable (c : Dev nD)

/-- A step resets the pool exactly when it is its image's first. -/
theorem reset_iff : ∀ t : Fin grid0.N,
    (Scalar.cmpi .ne (Scalar.extui (Scalar.cmpi .eq (BitVec.ofNat 32 (grid0.coords t 1).val) 0#32) : BitVec 32) 0#32 = 1#1) ↔ t.val % 4 = 0 := by
  decide +kernel

/-- The pool after a step, from the pool before it. -/
def poolNext (n : ℕ) (x : S1x96x56x224.Idx → Elt F .f32) (p : S1x1x96.Idx → Elt F .f32) : S1x1x96.Idx → Elt F .f32 :=
  k0_pay3 x (if n % 4 = 0 then k0_pay1 else p)

/-- One step of the kernel. -/
theorem wp_body {defs : Defs nD τ sig (Elt F) Λ₀} (𝒱 : Variants) (t : Fin grid0.N)
    (m2 : Memref sig .tc .vmem S1x96x56x224 .f32) (h2 : m2.IsWhole) (m3 : Memref sig .tc .vmem S1x1x96 .f32) (h3 : m3.IsWhole)
    (m4 : Memref sig .tc .vmem S1x96x56x256 .bf16) (h4 : m4.IsWhole)
    (x : S1x96x56x224.Idx → Elt F .f32) (p : S1x1x96.Idx → Elt F .f32) (e : S1x96x56x256.Idx → Elt F .bf16) (Q : PUnit → sProp 𝕄) :
    iprop(owns (c : Thread nD τ) m2 fullShare x ∗ owns (c : Thread nD τ) m3 fullShare p ∗ owns (c : Thread nD τ) m4 fullShare e)
      ⊢ iprop((owns (c : Thread nD τ) m2 fullShare x -∗ owns (c : Thread nD τ) m3 fullShare (poolNext t.val x p)
            -∗ owns (c : Thread nD τ) m4 fullShare (k0_pay4 x) -∗ Q ⟨⟩)
        -∗ wp frame (wpE defs 𝒱 (c : Thread nD τ) none) Set.univ (cc0__prep_body (grid0.coords t) m2 h2 m3 h3 m4 h4) Q) := by
  have hr := reset_iff t
  rw [cc0__prep_body_eq_skeleton]; unfold cc0__prep_body_skel poolNext
  by_cases e0 : t.val % 4 = 0
  · replace hr := hr.mpr e0
    simp only [hr, e0, ↓reduceDIte, ↓reduceIte, Prog.bind_op, Prog.bind_lift]
    iintro ⟨H2, H3, H4⟩ Hk
    iapply (OwnsSteps.wp_load_owns 𝒱 c _ rfl) $$ H3
    iintro H3
    iapply (OwnsSteps.wp_store_owns 𝒱 c (by decide)) $$ H3
    iintro H3
    iapply (OwnsSteps.wp_load_owns 𝒱 c x (OwnsSteps.read_whole x (by decide))) $$ H2
    iintro H2
    iapply (OwnsSteps.wp_load_owns 𝒱 c _ (OwnsSteps.read_whole _ (by decide))) $$ H3
    iintro H3
    iapply (OwnsSteps.wp_load_owns 𝒱 c _ rfl) $$ H3
    iintro H3
    iapply (OwnsSteps.wp_store_owns 𝒱 c (by decide)) $$ H3
    iintro H3
    iapply (OwnsSteps.wp_load_owns 𝒱 c _ rfl) $$ H4
    iintro H4
    iapply (OwnsSteps.wp_store_owns 𝒱 c (by decide)) $$ H4
    iintro H4
    sl_step
    iapply Hk $$ H2 H3 H4
  · replace hr := mt hr.mp e0
    simp only [hr, e0, ↓reduceDIte, ↓reduceIte, Prog.bind_op, Prog.bind_lift, Prog.bind_ret]
    iintro ⟨H2, H3, H4⟩ Hk
    iapply (OwnsSteps.wp_load_owns 𝒱 c x (OwnsSteps.read_whole x (by decide))) $$ H2
    iintro H2
    iapply (OwnsSteps.wp_load_owns 𝒱 c _ (OwnsSteps.read_whole _ (by decide))) $$ H3
    iintro H3
    iapply (OwnsSteps.wp_load_owns 𝒱 c _ rfl) $$ H3
    iintro H3
    iapply (OwnsSteps.wp_store_owns 𝒱 c (by decide)) $$ H3
    iintro H3
    iapply (OwnsSteps.wp_load_owns 𝒱 c _ rfl) $$ H4
    iintro H4
    iapply (OwnsSteps.wp_store_owns 𝒱 c (by decide)) $$ H4
    iintro H4
    sl_step
    iapply Hk $$ H2 H3 H4

end Cert.KernelIdeal.Prep

end
-- ==== Proof.ConvSteps.lean ====
/-
  The convolution kernel's transfers, one at a time. The kernel keeps two slots of a scratch buffer: each grid step
  waits for its own strip of the padded image, after starting the copy of the next step's strip into the other slot.
  Here: what one slot is, what a copied strip holds, and the rule of each of the kernel's single actions on a slot.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.ValueKit
public import Idealize.ShloMosaic.Lib.Pointwise
public import Idealize.ShloMosaic.Lib.Ring
public import Idealize.ShloMosaic.Lib.Transfers
public import Idealize.ShloMosaic.Lib.Pipeline.Value
public import Idealize.ShloMosaic.Lib.Tactic

@[expose] public section

set_option maxRecDepth 16384

noncomputable section

namespace Cert.KernelIdeal.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The assertions of the proof: the pipeline's resources beside the transfers' counters. -/
local notation "𝕄" => MT nD τ sig Unit (Elt F) ℕ (Pipeline.UD sig nD τ) ℕ

/-- The scratch buffer of a device. -/
abbrev bufLoc (c : Dev nD) : Loc nD τ sig := (c : Thread nD τ).loc cc1_scratch0
/-- The padded image of a device, in HBM. -/
abbrev imgLoc (c : Dev nD) : Loc nD τ sig := (c : Thread nD τ).loc main_v96

/-- The index of a rank-3 shape with a given rank-3 extent. -/
theorem slot_inb (s : Fin 2) : ∀ a, (![s.val, 0, 0] : Fin 3 → ℕ) a + S1x96x15872.size a ≤ S2x96x15872.size a := by
  revert s; decide

/-- The elements of slot `s`. -/
def slotSet (s : Fin 2) : Finset S2x96x15872.Idx := (Rect.unit (s := S2x96x15872) ![s.val, 0, 0] S1x96x15872.size (slot_inb s)).set

theorem mem_slotSet (s : Fin 2) (j : S2x96x15872.Idx) : j ∈ slotSet s ↔ (j 0).val = s.val := by
  unfold slotSet
  rw [Rect.mem_set_unit]
  constructor
  · intro h; have := h 0; simp at this; omega
  · intro h a
    have h1 := (j 1).isLt
    have h2 := (j 2).isLt
    match a with
    | ⟨0, _⟩ => simp; omega
    | ⟨1, _⟩ => exact ⟨Nat.zero_le _, by simpa using h1⟩
    | ⟨2, _⟩ => exact ⟨Nat.zero_le _, by simpa using h2⟩

theorem sem_inb (s : Fin 2) : ∀ a, (![s.val] : Fin 1 → ℕ) a + S1.size a ≤ S2.size a := by
  revert s; decide

/-- The transfer semaphore of slot `s`. -/
abbrev semN (s : Fin 2) : DmaSem sig :=
  ((cc1_scratch1.slice (Rect.unit (s := S2) ![s.val] S1.size (sem_inb s))).squeeze S_ squeezes_S1_S_).sem

/-- A rectangle of a rank-3 buffer cut at `off` and read as a rank-2 one, as the kernel names both ends of a transfer. -/
abbrev cut {sp : Space} {s : Shape} (m : Memref sig .tc sp s .bf16) (off sz : Fin s.rank → ℕ)
    (inb : ∀ a, off a + sz a ≤ s.size a) (S' : Shape) (sq : (⟨s.rank, sz⟩ : Shape).Squeezes S') : Memref sig .tc sp S' .bf16 :=
  (m.slice (Rect.unit off sz inb) (fun _ => rfl)).squeeze S' sq

/-- What a transfer of `L` columns leaves in slot `s` from column `col` on, of image `b` from column `scol` on: the image's
    elements there, and what was there before elsewhere. -/
def Copied (s : Fin 2) (col L b scol : ℕ) (X : S2x96x57344.Idx → Elt F .bf16) (f f' : S2x96x15872.Idx → Elt F .bf16) : Prop :=
  (∀ (j : S2x96x15872.Idx) (k : S2x96x57344.Idx), (j 0).val = s.val → col ≤ (j 2).val → (j 2).val < col + L → (k 0).val = b →
      (k 1).val = (j 1).val → (k 2).val + col = scol + (j 2).val → f' j = X k)
  ∧ (∀ j : S2x96x15872.Idx, (j 2).val < col ∨ col + L ≤ (j 2).val → f' j = f j)

/-- The image's index a transfer lands at a slot's index: both ends of the transfer move by the same coordinates `y`. -/
theorem source_index (s : Fin 2) (col b scol : ℕ) (j : S2x96x15872.Idx) (k k' : S2x96x57344.Idx) (y : Fin 3 → ℕ) (hy : y 0 = 0)
    (hd : ∀ a, (j a).val = (![s.val, 0, col] : Fin 3 → ℕ) a + y a) (hs : ∀ a, (k' a).val = (![b, 0, scol] : Fin 3 → ℕ) a + y a)
    (hk0 : (k 0).val = b) (hk1 : (k 1).val = (j 1).val) (hk2 : (k 2).val + col = scol + (j 2).val) : k = k' := by
  have d1 : (j 1).val = 0 + y 1 := hd 1
  have d2 : (j 2).val = col + y 2 := hd 2
  have s0 : (k' 0).val = b + y 0 := hs 0
  have s1 : (k' 1).val = 0 + y 1 := hs 1
  have s2 : (k' 2).val = scol + y 2 := hs 2
  have e0 : (k 0).val = (k' 0).val := by omega
  have e1 : (k 1).val = (k' 1).val := by omega
  have e2 : (k 2).val = (k' 2).val := by omega
  funext a
  apply Fin.ext
  match a with
  | ⟨0, _⟩ => exact e0
  | ⟨1, _⟩ => exact e1
  | ⟨2, _⟩ => exact e2

theorem copied_write (s : Fin 2) (col L b scol : ℕ) (X : S2x96x57344.Idx → Elt F .bf16) (f : S2x96x15872.Idx → Elt F .bf16)
    (S' : Shape) (sq : (⟨3, ![1, 96, L]⟩ : Shape).Squeezes S')
    (inbd : ∀ a, (![s.val, 0, col] : Fin 3 → ℕ) a + (![1, 96, L] : Fin 3 → ℕ) a ≤ S2x96x15872.size a)
    (inbs : ∀ a, (![b, 0, scol] : Fin 3 → ℕ) a + (![1, 96, L] : Fin 3 → ℕ) a ≤ S2x96x57344.size a) :
    Copied s col L b scol X f
      ((cut (Memref.whole cc1_scratch0) ![s.val, 0, col] ![1, 96, L] inbd S' sq).view.write (Elt F) f
        (ReadAs.same.apply ((cut (Memref.whole main_v96) ![b, 0, scol] ![1, 96, L] inbs S' sq).view.read (Elt F) X)) Finset.univ) := by
  have hset : (cut (Memref.whole cc1_scratch0) ![s.val, 0, col] ![1, 96, L] inbd S' sq).view.set
      = (Rect.unit (s := S2x96x15872) ![s.val, 0, col] ![1, 96, L] inbd).set :=
    (View.set_reshape _ _).trans (View.set_slice_whole cc1_scratch0 _)
  constructor
  · intro j k hj h1 h2 hk0 hk1 hk2
    have hmem : j ∈ (cut (Memref.whole cc1_scratch0) ![s.val, 0, col] ![1, 96, L] inbd S' sq).view.set := by
      rw [hset, Rect.mem_set_unit]
      intro a
      have h1' := (j 1).isLt
      match a with
      | ⟨0, _⟩ => simp; omega
      | ⟨1, _⟩ => exact ⟨Nat.zero_le _, by simpa using h1'⟩
      | ⟨2, _⟩ => exact ⟨h1, h2⟩
    obtain ⟨x, rfl⟩ := View.exists_emb_of_mem_set _ hmem
    rw [View.write_emb_of_mem _ _ (Finset.mem_univ x)]
    have hk : k = (cut (Memref.whole main_v96) ![b, 0, scol] ![1, 96, L] inbs S' sq).view.emb x :=
      source_index s col b scol _ k _ (fun a => (Shape.reshapeEquiv sq.numel_eq x a : ℕ))
        (Nat.lt_one_iff.mp (Shape.reshapeEquiv sq.numel_eq x 0).isLt)
        (fun a => ValueKit.rect_emb_unit_val _ _ inbd _ a) (fun a => ValueKit.rect_emb_unit_val _ _ inbs _ a) hk0 hk1 hk2
    rw [hk]; rfl
  · intro j hj
    rw [View.write_of_not_mem]
    rw [View.setOn_univ, hset, Rect.mem_set_unit]
    intro h
    have h2 := h 2
    simp at h2
    omega

/-- Slot `s` in flight: a transfer of `N` credits, which delivers the slot at contents satisfying `P` and gives back the share of the image it reads. -/
def slotFlight (c : Dev nD) (s : Fin 2) (q : PosShare TreeShare) (X : S2x96x57344.Idx → Elt F .bf16) (N : ℕ)
    (P : (S2x96x15872.Idx → Elt F .bf16) → Prop) : sProp 𝕄 :=
  iprop(∃ Src : Finset S2x96x57344.Idx,
    Transfers.Flight (countersEmb (U := Pipeline.UD sig nD τ)) (c : Thread nD τ) (SemLoc.dma (semN s)) () N
      iprop((∃ f, ⌜P f⌝ ∗ bufLoc c ↦[slotSet s]{fullShare} f) ∗ (imgLoc c ↦[Src]{q} X))
    ∗ (imgLoc c ↦[Finset.univ \ Src]{q} X))

/-- Starting a transfer into slot `s`. -/
theorem wp_start {α : Type} (c : Dev nD) (s : Fin 2) (col L b scol : ℕ) (X : S2x96x57344.Idx → Elt F .bf16) (f : S2x96x15872.Idx → Elt F .bf16)
    (q : PosShare TreeShare) (N : ℕ) (P : (S2x96x15872.Idx → Elt F .bf16) → Prop) (hP : ∀ f', Copied s col L b scol X f f' → P f')
    (osem : Fin 1 → ℕ) (od os sz : Fin 3 → ℕ) (hosem : osem = ![s.val]) (hod : od = ![s.val, 0, col]) (hos : os = ![b, 0, scol])
    (hsz : sz = ![1, 96, L]) (S' : Shape) (sq : (⟨3, sz⟩ : Shape).Squeezes S')
    (inbo : ∀ a, osem a + S1.size a ≤ S2.size a)
    (inbd : ∀ a, od a + sz a ≤ S2x96x15872.size a) (inbs : ∀ a, os a + sz a ≤ S2x96x57344.size a)
    (hN : (cut (Memref.whole cc1_scratch0) od sz inbd S' sq).view.amount (SemLoc.dma ((cc1_scratch1.slice (Rect.unit (s := S2) osem S1.size inbo)).squeeze S_ squeezes_S1_S_).sem) = N)
    (hN0 : 0 < N)
    (h1) (h2) (h3) (k : PUnit → Prog (TpuEff nD τ sig (Elt F) Λ₀ .tc) α) (Q : α → sProp 𝕄) (𝒱 : Variants) (defs : Defs nD τ sig (Elt F) Λ₀) :
    iprop((bufLoc c ↦[slotSet s]{fullShare} f) ∗ semVal ((c : Thread nD τ), SemLoc.dma (semN s)) 0 ∗ imgLoc c ↦{q} X)
      ⊢ iprop((slotFlight c s q X N P -∗ wp frame (wpE defs 𝒱 (c : Thread nD τ) none) Set.univ (k ⟨⟩) Q)
        -∗ wp frame (wpE defs 𝒱 (c : Thread nD τ) none) Set.univ
          (.op (.enqueueDma (cut (Memref.whole main_v96) os sz inbs S' sq) (.here (cut (Memref.whole cc1_scratch0) od sz inbd S' sq))
            (.dma ((cc1_scratch1.slice (Rect.unit (s := S2) osem S1.size inbo)).squeeze S_ squeezes_S1_S_).sem) h1 h2 h3) k) Q) := by
  subst hosem hod hos hsz
  have hsub : (cut (Memref.whole cc1_scratch0) ![s.val, 0, col] ![1, 96, L] inbd S' sq).view.set ⊆ slotSet s := by
    rw [show (cut (Memref.whole cc1_scratch0) ![s.val, 0, col] ![1, 96, L] inbd S' sq).view.set
        = (Rect.unit (s := S2x96x15872) ![s.val, 0, col] ![1, 96, L] inbd).set from
      (View.set_reshape _ _).trans (View.set_slice_whole cc1_scratch0 _)]
    intro j hj
    rw [Rect.mem_set_unit] at hj
    have h0 := hj 0
    simp at h0
    exact (mem_slotSet s j).mpr (by omega)
  iintro ⟨Hb, Hv, Hx⟩ Hk
  ihave Hx := (pointsTo_split_subset (Finset.subset_univ (cut (Memref.whole main_v96) ![b, 0, scol] ![1, 96, L] inbs S' sq).view.set)).1 $$ Hx
  icases Hx with ⟨Hx1, Hx2⟩
  iapply (Transfers.wp_dmaLocal (countersEmb (U := Pipeline.UD sig nD τ)) 𝒱 (c : Thread nD τ) none
    (src := cut (Memref.whole main_v96) ![b, 0, scol] ![1, 96, L] inbs S' sq) (via := ReadAs.same)
    (dst := cut (Memref.whole cc1_scratch0) ![s.val, 0, col] ![1, 96, L] inbd S' sq)
    (Sd := slotSet s) (fs := X) (fd := f) (q := q) () N hN hN0 hsub) $$ [Hx1 Hb Hv]
  · isplitl [Hx1]; · iexact Hx1
    isplitl [Hb]; · iexact Hb
    iexact Hv
  iintro HF
  iapply Hk
  unfold slotFlight
  iexists _
  isplitl [HF]
  · iapply (Transfers.Flight_mono (countersEmb (U := Pipeline.UD sig nD τ)) (c : Thread nD τ) ?_) $$ HF
    iintro ⟨Hd, Hs⟩
    isplitl [Hd]
    · iexists _
      isplitr; swap
      · iexact Hd
      ipureintro
      exact hP _ (copied_write s col L b scol X f S' sq inbd inbs)
    iexact Hs
  iexact Hx2

/-- The zero the kernel stores past the image's edges. -/
abbrev z0 : Elt F .bf16 := (Scalar.ofBits .bf16 0x0000#16 : F .bf16)

/-- What a store of 768 zero columns leaves in slot `s` from column `col` on. -/
def Edge (s : Fin 2) (col : ℕ) (f' : S2x96x15872.Idx → Elt F .bf16) : Prop :=
  ∀ j : S2x96x15872.Idx, (j 0).val = s.val → col ≤ (j 2).val → (j 2).val < col + 768 → f' j = z0

/-- Zeroing 768 columns of slot `s`; the kernel loads them first and drops what it read. -/
theorem wp_edge {α : Type} (c : Dev nD) (s : Fin 2) (col : ℕ) (f : S2x96x15872.Idx → Elt F .bf16)
    (off : Fin 3 → ℕ) (hoff : off = ![s.val, 0, col]) (inb : ∀ a, off a + S1x96x768.size a ≤ S2x96x15872.size a)
    (w : S1x96x768.Idx → Elt F .bf16) (hw : ∀ x, w x = z0)
    (hl) (hx) (hm) (k : PUnit → Prog (TpuEff nD τ sig (Elt F) Λ₀ .tc) α) (Q : α → sProp 𝕄) (𝒱 : Variants) (defs : Defs nD τ sig (Elt F) Λ₀) :
    (bufLoc c ↦[slotSet s]{fullShare} f : sProp 𝕄)
      ⊢ iprop((∀ f', ⌜Edge s col f'⌝ -∗ (bufLoc c ↦[slotSet s]{fullShare} f') -∗ wp frame (wpE defs 𝒱 (c : Thread nD τ) none) Set.univ (k ⟨⟩) Q)
        -∗ wp frame (wpE defs 𝒱 (c : Thread nD τ) none) Set.univ
          (.op (.load (Memref.whole cc1_scratch0) (Rect.unit (s := S2x96x15872) off S1x96x768.size inb).toLoadRect hl) fun _ =>
            .op (.store (Memref.whole cc1_scratch0) (Rect.unit (s := S2x96x15872) off S1x96x768.size inb) w Finset.univ hx hm) k) Q) := by
  subst hoff
  have hset : ((Memref.whole cc1_scratch0 : Memref sig .tc .vmem S2x96x15872 .bf16).access (Rect.unit (s := S2x96x15872) ![s.val, 0, col] S1x96x768.size inb)).set
      = (Rect.unit (s := S2x96x15872) ![s.val, 0, col] S1x96x768.size inb).set := View.set_slice_whole cc1_scratch0 _
  have hsub : ((Memref.whole cc1_scratch0 : Memref sig .tc .vmem S2x96x15872 .bf16).access (Rect.unit (s := S2x96x15872) ![s.val, 0, col] S1x96x768.size inb)).set ⊆ slotSet s := by
    rw [hset]
    intro j hj
    rw [Rect.mem_set_unit] at hj
    have h0 := hj 0
    simp at h0
    exact (mem_slotSet s j).mpr (by omega)
  iintro Hb Hk
  iapply (wp_load_rect 𝒱 (c : Thread nD τ) none Set.univ (m := (Memref.whole cc1_scratch0 : Memref sig .tc .vmem S2x96x15872 .bf16))
    (r := Rect.unit (s := S2x96x15872) ![s.val, 0, col] S1x96x768.size inb) (S := slotSet s) hsub) $$ Hb
  iintro Hb
  iapply (wp_store 𝒱 (c : Thread nD τ) none Set.univ (m := (Memref.whole cc1_scratch0 : Memref sig .tc .vmem S2x96x15872 .bf16))
    (r := Rect.unit (s := S2x96x15872) ![s.val, 0, col] S1x96x768.size inb) (w := w) (S := slotSet s) hsub) $$ Hb
  iintro Hb
  ispecialize Hk $$ %_ [] Hb
  · ipureintro
    intro j hj h1 h2
    have hmem : j ∈ ((Memref.whole cc1_scratch0 : Memref sig .tc .vmem S2x96x15872 .bf16).access (Rect.unit (s := S2x96x15872) ![s.val, 0, col] S1x96x768.size inb)).set := by
      rw [hset, Rect.mem_set_unit]
      intro a
      have h1' := (j 1).isLt
      match a with
      | ⟨0, _⟩ => simp; omega
      | ⟨1, _⟩ => exact ⟨Nat.zero_le _, by simpa using h1'⟩
      | ⟨2, _⟩ => exact ⟨h1, h2⟩
    obtain ⟨x, rfl⟩ := View.exists_emb_of_mem_set _ hmem
    rw [View.write_emb_of_mem _ _ (Finset.mem_univ x)]
    exact hw x
  iexact Hk

/-- The strip of step `n`, as the slot `n % 2` holds it once copied: the image's columns `14336 (n % 4) - 768` on of image `n / 4`, zeros
    past its edges. -/
def Strip (n : ℕ) (X : S2x96x57344.Idx → Elt F .bf16) (f : S2x96x15872.Idx → Elt F .bf16) : Prop :=
  (∀ (j : S2x96x15872.Idx) (k : S2x96x57344.Idx), (j 0).val = n % 2 → (k 0).val = n / 4 → (k 1).val = (j 1).val →
      (k 2).val + 768 = (n % 4) * 14336 + (j 2).val → f j = X k)
  ∧ (∀ j : S2x96x15872.Idx, (j 0).val = n % 2 → ((n % 4) * 14336 + (j 2).val < 768 ∨ 58112 ≤ (n % 4) * 14336 + (j 2).val) → f j = z0)

/-- The slot of step `n`. -/
abbrev slot (n : ℕ) : Fin 2 := ⟨n % 2, Nat.mod_lt _ (by decide)⟩

theorem strip_first (n : ℕ) (hn : n % 4 = 0) (X : S2x96x57344.Idx → Elt F .bf16) (f f' : S2x96x15872.Idx → Elt F .bf16)
    (he : Edge (slot n) 0 f) (hc : Copied (slot n) 768 15104 (n / 4) 0 X f f') : Strip n X f' := by
  constructor
  · intro j k h0 k0 k1 k2
    have hj : (j 2).val < 15872 := (j 2).isLt
    exact hc.1 j k h0 (by omega) (by omega) k0 k1 (by omega)
  · intro j h0 h
    have hj : (j 2).val < 15872 := (j 2).isLt
    rw [hc.2 j (by omega)]
    exact he j h0 (by omega) (by omega)

theorem strip_interior (n : ℕ) (hn : n % 4 = 1 ∨ n % 4 = 2) (X : S2x96x57344.Idx → Elt F .bf16) (f f' : S2x96x15872.Idx → Elt F .bf16)
    (hc : Copied (slot n) 0 15872 (n / 4) (n % 4 * 14336 - 768) X f f') : Strip n X f' := by
  constructor
  · intro j k h0 k0 k1 k2
    have hj : (j 2).val < 15872 := (j 2).isLt
    exact hc.1 j k h0 (by omega) (by omega) k0 k1 (by omega)
  · intro j h0 h
    have hj : (j 2).val < 15872 := (j 2).isLt
    omega

theorem strip_last (n : ℕ) (hn : n % 4 = 3) (X : S2x96x57344.Idx → Elt F .bf16) (f f' : S2x96x15872.Idx → Elt F .bf16)
    (he : Edge (slot n) 15104 f) (hc : Copied (slot n) 0 15104 (n / 4) 42240 X f f') : Strip n X f' := by
  constructor
  · intro j k h0 k0 k1 k2
    have hk : (k 2).val < 57344 := (k 2).isLt
    exact hc.1 j k h0 (by omega) (by omega) k0 k1 (by omega)
  · intro j h0 h
    have hj : (j 2).val < 15872 := (j 2).isLt
    rw [hc.2 j (by omega)]
    exact he j h0 (by omega) (by omega)

/-- The credits of step `n`'s transfer: fewer columns are moved at the image's two edges. -/
def credit (n : ℕ) : ℕ :=
  if n % 4 = 0 ∨ n % 4 = 3 then (Memref.whole cc1_scratch0).view.ref.dmaCredit S96x15104 .bf16
  else (Memref.whole cc1_scratch0).view.ref.dmaCredit S96x15872 .bf16

/-- Slot `s` at rest: its elements, its semaphore at zero, and the share of the image it reads through. -/
def slotFree (c : Dev nD) (s : Fin 2) (q : PosShare TreeShare) (X : S2x96x57344.Idx → Elt F .bf16) : sProp 𝕄 :=
  iprop((∃ f, bufLoc c ↦[slotSet s]{fullShare} f) ∗ semVal ((c : Thread nD τ), SemLoc.dma (semN s)) 0 ∗ imgLoc c ↦{q} X)

/-- The strip a load of the slot returns. -/
def stripV (n : ℕ) (X : S2x96x57344.Idx → Elt F .bf16) : S1x96x15872.Idx → Elt F .bf16 := fun y =>
  if h : 768 ≤ (n % 4) * 14336 + (y 2).val ∧ (n % 4) * 14336 + (y 2).val < 58112 then
    X (ix3 ⟨n / 4 % 2, Nat.mod_lt _ (by decide)⟩ ⟨(y 1).val, (y 1).isLt⟩ ⟨(n % 4) * 14336 + (y 2).val - 768, by omega⟩)
  else z0

theorem read_strip (n : ℕ) (hn : n < 8) (X : S2x96x57344.Idx → Elt F .bf16) (f : S2x96x15872.Idx → Elt F .bf16) (h : Strip n X f)
    (off : Fin 3 → ℕ) (hoff : off = ![n % 2, 0, 0]) (inb : ∀ a, off a + S1x96x15872.size a ≤ S2x96x15872.size a) :
    ((Memref.whole cc1_scratch0 : Memref sig .tc .vmem S2x96x15872 .bf16).access (Rect.unit (s := S2x96x15872) off S1x96x15872.size inb)).read (Elt F) f
      = stripV n X := by
  subst hoff
  funext y
  have e : ∀ a, (((Rect.unit (s := S2x96x15872) ![n % 2, 0, 0] S1x96x15872.size inb).emb y) a : ℕ) = (![n % 2, 0, 0] : Fin 3 → ℕ) a + y a :=
    fun a => ValueKit.rect_emb_unit_val _ _ inb y a
  have hy : (y 0).val < 1 := (y 0).isLt
  have e0 : (((Rect.unit (s := S2x96x15872) ![n % 2, 0, 0] S1x96x15872.size inb).emb y) 0 : ℕ) = n % 2 + (y 0).val := e 0
  have e1 : (((Rect.unit (s := S2x96x15872) ![n % 2, 0, 0] S1x96x15872.size inb).emb y) 1 : ℕ) = 0 + (y 1).val := e 1
  have e2 : (((Rect.unit (s := S2x96x15872) ![n % 2, 0, 0] S1x96x15872.size inb).emb y) 2 : ℕ) = 0 + (y 2).val := e 2
  show f ((Rect.unit (s := S2x96x15872) ![n % 2, 0, 0] S1x96x15872.size inb).emb y) = stripV n X y
  unfold stripV
  split
  · next hc =>
    refine h.1 _ _ (by omega) ?_ ?_ ?_
    · show n / 4 % 2 = n / 4; omega
    · show (y 1).val = _; omega
    · show (n % 4) * 14336 + (y 2).val - 768 + 768 = _; omega
  · next hc => exact h.2 _ (by omega) (by omega)

end Cert.KernelIdeal.Conv
-- ==== Proof.ConvBody.lean ====
/-
  One grid step of the convolution kernel: the transfers it starts, the one it waits for, and the block it writes.
-/
module

public import proofs.«01_k».proof.Proof.OwnsSteps
public import proofs.«01_k».proof.Proof.ConvSteps
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.ValueKit
public import Idealize.ShloMosaic.Lib.Pointwise
public import Idealize.ShloMosaic.Lib.Ring
public import Idealize.ShloMosaic.Lib.Transfers
public import Idealize.ShloMosaic.Lib.Pipeline.Value
public import Idealize.ShloMosaic.Lib.Tactic

@[expose] public section

set_option maxRecDepth 16384

noncomputable section

namespace Cert.KernelIdeal.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The assertions of the proof: the pipeline's resources beside the transfers' counters. -/
local notation "𝕄" => MT nD τ sig Unit (Elt F) ℕ (Pipeline.UD sig nD τ) ℕ

/-! ## Which branches step `t` takes, and where its rectangles lie -/

theorem cond1_iff : ∀ t : Fin grid1.N, k1_cond1 (grid1.coords t) = 1#1 ↔ t.val = 0 := by decide +kernel
theorem cond2_of : ∀ t : Fin grid1.N, t.val = 0 → k1_cond2 (grid1.coords t) = 1#1 := by decide +kernel
theorem cond3_of : ∀ t : Fin grid1.N, t.val = 0 → ¬ k1_cond3 (grid1.coords t) = 1#1 := by decide +kernel
theorem cond4_of : ∀ t : Fin grid1.N, t.val = 0 → ¬ k1_cond4 (grid1.coords t) = 1#1 := by decide +kernel
theorem cond5_iff : ∀ t : Fin grid1.N, k1_cond5 (grid1.coords t) = 1#1 ↔ t.val < 7 := by decide +kernel
theorem cond6_iff : ∀ t : Fin grid1.N, k1_cond6 (grid1.coords t) = 1#1 ↔ (t.val + 1) % 4 = 0 := by decide +kernel
theorem cond7_iff : ∀ t : Fin grid1.N, k1_cond7 (grid1.coords t) = 1#1 ↔ ((t.val + 1) % 4 = 1 ∨ (t.val + 1) % 4 = 2) := by decide +kernel
theorem cond8_iff : ∀ t : Fin grid1.N, k1_cond8 (grid1.coords t) = 1#1 ↔ (t.val + 1) % 4 = 3 := by decide +kernel
theorem cond9_iff : ∀ t : Fin grid1.N, k1_cond9 (grid1.coords t) = 1#1 ↔ t.val % 4 = 0 := by decide +kernel
theorem cond10_iff : ∀ t : Fin grid1.N, k1_cond10 (grid1.coords t) = 1#1 ↔ (t.val % 4 = 1 ∨ t.val % 4 = 2) := by decide +kernel
theorem cond11_iff : ∀ t : Fin grid1.N, k1_cond11 (grid1.coords t) = 1#1 ↔ t.val % 4 = 3 := by decide +kernel

theorem off1 : ∀ t : Fin grid1.N, t.val = 0 → k1_off1 (grid1.coords t) = ![t.val % 2, 0, 0] := by decide +kernel
theorem off2 : ∀ t : Fin grid1.N, t.val = 0 → k1_off2 (grid1.coords t) = ![t.val % 2] := by decide +kernel
theorem off3 : ∀ t : Fin grid1.N, t.val = 0 → k1_off3 (grid1.coords t) = ![t.val % 2, 0, 768] := by decide +kernel
theorem off4 : ∀ t : Fin grid1.N, t.val = 0 → k1_off4 (grid1.coords t) = ![t.val / 4, 0, 0] := by decide +kernel
theorem off12 : ∀ t : Fin grid1.N, t.val < 7 → k1_off12 (grid1.coords t) = ![(t.val + 1) % 2, 0, 0] := by decide +kernel
theorem off13 : ∀ t : Fin grid1.N, t.val < 7 → k1_off13 (grid1.coords t) = ![(t.val + 1) % 2] := by decide +kernel
theorem off14 : ∀ t : Fin grid1.N, t.val < 7 → k1_off14 (grid1.coords t) = ![(t.val + 1) % 2, 0, 768] := by decide +kernel
theorem off15 : ∀ t : Fin grid1.N, t.val < 7 → k1_off15 (grid1.coords t) = ![(t.val + 1) / 4, 0, 0] := by decide +kernel
theorem off16 : ∀ t : Fin grid1.N, t.val < 7 → k1_off16 (grid1.coords t) = ![(t.val + 1) % 2] := by decide +kernel
theorem off17 : ∀ t : Fin grid1.N, t.val < 7 → k1_off17 (grid1.coords t) = ![(t.val + 1) % 2, 0, 0] := by decide +kernel
theorem off18 : ∀ t : Fin grid1.N, t.val < 7 → (t.val + 1) % 4 = 1 ∨ (t.val + 1) % 4 = 2 → k1_off18 (grid1.coords t) = ![(t.val + 1) / 4, 0, (t.val + 1) % 4 * 14336 - 768] := by decide +kernel
theorem off19 : ∀ t : Fin grid1.N, t.val < 7 → k1_off19 (grid1.coords t) = ![(t.val + 1) % 2, 0, 15104] := by decide +kernel
theorem off20 : ∀ t : Fin grid1.N, t.val < 7 → k1_off20 (grid1.coords t) = ![(t.val + 1) % 2] := by decide +kernel
theorem off21 : ∀ t : Fin grid1.N, t.val < 7 → k1_off21 (grid1.coords t) = ![(t.val + 1) % 2, 0, 0] := by decide +kernel
theorem off22 : ∀ t : Fin grid1.N, t.val < 7 → k1_off22 (grid1.coords t) = ![(t.val + 1) / 4, 0, 42240] := by decide +kernel
theorem off23 : ∀ t : Fin grid1.N, k1_off23 (grid1.coords t) = ![t.val % 2] := by decide +kernel
theorem off26 : ∀ t : Fin grid1.N, k1_off26 (grid1.coords t) = ![t.val % 2] := by decide +kernel
theorem off29 : ∀ t : Fin grid1.N, k1_off29 (grid1.coords t) = ![t.val % 2] := by decide +kernel
theorem off32 : ∀ t : Fin grid1.N, k1_off32 (grid1.coords t) = ![t.val % 2, 0, 0] := by decide +kernel

/-- Waiting for slot `s`'s transfer: the slot comes back at rest, at contents satisfying `P`. -/
theorem wp_arrive {α : Type} (c : Dev nD) (s : Fin 2) (q : PosShare TreeShare) (X : S2x96x57344.Idx → Elt F .bf16) (N : ℕ)
    (P : (S2x96x15872.Idx → Elt F .bf16) → Prop) (W : Waits sig Unit)
    (osem : Fin 1 → ℕ) (hosem : osem = ![s.val]) (inbo : ∀ a, osem a + S1.size a ≤ S2.size a)
    {sp sp' : Space} {s' s₁ : Shape} {e' e₁ : EltTy} (src : Memref sig .tc sp' s' e') (dst : Memref sig .tc sp s₁ e₁)
    (hN : dst.view.dmaCredit = N) (h1) (h2) (k : PUnit → Prog (TpuEff nD τ sig (Elt F) Λ₀ .tc) α) (Q : α → sProp 𝕄) (𝒱 : Variants) (defs : Defs nD τ sig (Elt F) Λ₀) :
    iprop(slotFlight c s q X N P ∗ owes (c : Thread nD τ) 0 W)
      ⊢ iprop((∀ f W', ⌜P f⌝ -∗ (bufLoc c ↦[slotSet s]{fullShare} f) -∗ semVal ((c : Thread nD τ), SemLoc.dma (semN s)) 0 -∗ (imgLoc c ↦{q} X)
            -∗ owes (c : Thread nD τ) 0 W' -∗ wp frame (wpE defs 𝒱 (c : Thread nD τ) none) Set.univ (k ⟨⟩) Q)
        -∗ wp frame (wpE defs 𝒱 (c : Thread nD τ) none) Set.univ
          (.op (.waitDma2 ((cc1_scratch1.slice (Rect.unit (s := S2) osem S1.size inbo)).squeeze S_ squeezes_S1_S_).sem src dst h1 h2) k) Q) := by
  subst hosem
  unfold slotFlight
  iintro ⟨⟨%Src, HF, HX⟩, HO⟩ Hk
  iapply (Transfers.wp_waitLocal (countersEmb (U := Pipeline.UD sig nD τ)) 𝒱 (c : Thread nD τ) none () hN) $$ [HF HO]
  · isplitl [HF]; · iexact HF
    iexact HO
  iintro ⟨⟨⟨%f, %hf, Hb⟩, Hs⟩, Hv, HO⟩
  ihave HX := (pointsTo_split_subset (ℓ := imgLoc c) (I := Src) (S := Finset.univ) (Finset.subset_univ _)).2 $$ [Hs HX]
  · isplitl [Hs]; · iexact Hs
    iexact HX
  iapply Hk $$ %f %_ [] Hb Hv HX HO
  ipureintro; exact hf

/-- The share of the image slot `s` reads through. -/
abbrev qs (s : Fin 2) : PosShare TreeShare := Transfers.shareTok fullShare 2 s

/-- Step `n`'s slot while its strip is on the way. -/
def flying (c : Dev nD) (X : S2x96x57344.Idx → Elt F .bf16) (n : ℕ) : sProp 𝕄 :=
  slotFlight c (slot n) (qs (slot n)) X (credit n) (Strip n X)

/-- Step `n`'s slot at rest. -/
def resting (c : Dev nD) (X : S2x96x57344.Idx → Elt F .bf16) (n : ℕ) : sProp 𝕄 := slotFree c (slot n) (qs (slot n)) X

/-- Step `n`'s slot once its strip has arrived. -/
def arrived (c : Dev nD) (X : S2x96x57344.Idx → Elt F .bf16) (n : ℕ) : sProp 𝕄 :=
  iprop((∃ f, ⌜Strip n X f⌝ ∗ bufLoc c ↦[slotSet (slot n)]{fullShare} f) ∗ semVal ((c : Thread nD τ), SemLoc.dma (semN (slot n))) 0
    ∗ imgLoc c ↦{qs (slot n)} X)

theorem arrived_resting (c : Dev nD) (X : S2x96x57344.Idx → Elt F .bf16) (n : ℕ) : arrived c X n ⊢ resting c X n := by
  unfold arrived resting slotFree
  iintro ⟨⟨%f, -, Hb⟩, Hv, Hx⟩
  isplitl [Hb]; · iexists f; iexact Hb
  isplitl [Hv]; · iexact Hv
  iexact Hx

theorem resting_add_two (c : Dev nD) (X : S2x96x57344.Idx → Elt F .bf16) (n : ℕ) : resting c X (n + 2) = resting c X n := by
  have : slot (n + 2) = slot n := Fin.ext (by show (n + 2) % 2 = n % 2; omega)
  unfold resting; rw [this]

theorem credit_edge (n : ℕ) (h : n % 4 = 0 ∨ n % 4 = 3) : credit n = (Memref.whole cc1_scratch0).view.ref.dmaCredit S96x15104 .bf16 := if_pos h
theorem credit_interior (n : ℕ) (h : n % 4 = 1 ∨ n % 4 = 2) : credit n = (Memref.whole cc1_scratch0).view.ref.dmaCredit S96x15872 .bf16 :=
  if_neg (by omega)

theorem credit_pos (n : ℕ) : 0 < credit n := by unfold credit; split <;> decide

theorem pay2_apply (x : S1x96x768.Idx) : (k1_pay2 : FVec F S1x96x768 .bf16) x = z0 := rfl
theorem pay4_apply (x : S1x96x768.Idx) : (k1_pay4 : FVec F S1x96x768 .bf16) x = z0 := rfl
theorem pay5_apply (x : S1x96x768.Idx) : (k1_pay5 : FVec F S1x96x768 .bf16) x = z0 := rfl

variable (c : Dev nD) (t : Fin grid1.N) (X : S2x96x57344.Idx → Elt F .bf16)
  (m3 : Memref sig .tc .vmem S1x5x96x480 .bf16) (h3 : m3.IsWhole) (m4 : Memref sig .tc .vmem S1x96x56x224 .f32) (h4 : m4.IsWhole)
  (𝒱 : Variants) (defs : Defs nD τ sig (Elt F) Λ₀)

/-- What the first part of a step leaves: its own slot arrived if it is an image's first, on its way otherwise; the next step's on its way. -/
def afterPart1 : sProp 𝕄 :=
  iprop((if t.val % 4 = 0 then arrived c X t.val else flying c X t.val) ∗ (if t.val < 7 then flying c X (t.val + 1) else resting c X (t.val + 1))
    ∗ ∃ W, owes (c : Thread nD τ) 0 W)

theorem wp_part1 (Q : _ → sProp 𝕄) :
    iprop((if t.val = 0 then resting c X t.val else flying c X t.val) ∗ resting c X (t.val + 1) ∗ (∃ W, owes (c : Thread nD τ) 0 W))
      ⊢ iprop((∀ r, afterPart1 c t X -∗ Q r)
        -∗ wp frame (wpE defs 𝒱 (c : Thread nD τ) none) Set.univ
          (k1_part1 (grid1.coords t) (Memref.whole main_v96) (Memref.isWhole_whole _) m3 h3 m4 h4 (Memref.whole cc1_scratch0) (Memref.isWhole_whole _) cc1_scratch1) Q) := by
  have c1 := cond1_iff t
  have c5 := cond5_iff t
  have c6 := cond6_iff t
  have c7 := cond7_iff t
  have c8 := cond8_iff t
  have c9 := cond9_iff t
  have ht : t.val < 8 := t.isLt
  rw [k1_part1_eq_skeleton]; unfold k1_part1_skel
  by_cases e0 : t.val = 0
  · have c2 := cond2_of t e0
    have c3 := cond3_of t e0
    have c4 := cond4_of t e0
    have e5 : t.val < 7 := by omega
    have e6 : ¬ (t.val + 1) % 4 = 0 := by omega
    have e7 : (t.val + 1) % 4 = 1 ∨ (t.val + 1) % 4 = 2 := by omega
    have e8 : ¬ (t.val + 1) % 4 = 3 := by omega
    have e9 : t.val % 4 = 0 := by omega
    replace c1 := c1.mpr e0
    replace c5 := c5.mpr e5
    replace c6 := mt c6.mp e6
    replace c7 := c7.mpr e7
    replace c8 := mt c8.mp e8
    replace c9 := c9.mpr e9
    simp only [c1, c2, c3, c4, c5, c6, c7, c8, c9, ↓reduceDIte, Prog.bind_op, Prog.bind_lift]
    rw [if_pos e0]
    unfold resting slotFree
    iintro ⟨⟨⟨%f0, Hb0⟩, Hv0, Hx0⟩, ⟨⟨%f1, Hb1⟩, Hv1, Hx1⟩, ⟨%W, HW⟩⟩ Hk
    iapply (wp_edge c (slot t.val) 0 f0 _ (off1 t e0) _ _ pay2_apply) $$ Hb0
    iintro %g0 %hg0 Hb0
    iapply (wp_start c (slot t.val) 768 15104 (t.val / 4) 0 X g0 (qs (slot t.val)) (credit t.val) (Strip t.val X)
      (fun f' => strip_first t.val e9 X g0 f' hg0) _ _ _ _ (off2 t e0) (off3 t e0) (off4 t e0) rfl _ _ _ _ _
      (credit_edge _ (Or.inl e9)).symm (credit_pos _)) $$ [Hb0 Hv0 Hx0]
    · isplitl [Hb0]; · iexact Hb0
      isplitl [Hv0]; · iexact Hv0
      iexact Hx0
    iintro HF0
    iapply (wp_start c (slot (t.val + 1)) 0 15872 ((t.val + 1) / 4) ((t.val + 1) % 4 * 14336 - 768) X f1 (qs (slot (t.val + 1))) (credit (t.val + 1))
      (Strip (t.val + 1) X)
      (fun f' => strip_interior (t.val + 1) e7 X f1 f') _ _ _ _ (off16 t e5) (off17 t e5) (off18 t e5 e7) rfl _ _ _ _ _
      (credit_interior _ e7).symm (credit_pos _)) $$ [Hb1 Hv1 Hx1]
    · isplitl [Hb1]; · iexact Hb1
      isplitl [Hv1]; · iexact Hv1
      iexact Hx1
    iintro HF1
    iapply (wp_arrive c (slot t.val) (qs (slot t.val)) X (credit t.val) (Strip t.val X) W _ (off23 t) _ _ _ (credit_edge _ (Or.inl e9)).symm) $$ [HF0 HW]
    · isplitl [HF0]; · iexact HF0
      iexact HW
    iintro %f %W' %hf Hb Hv Hx HW
    sl_step
    iapply Hk
    unfold afterPart1 arrived flying
    rw [if_pos e9, if_pos e5]
    isplitl [Hb Hv Hx]
    · isplitl [Hb]
      · iexists f
        isplitr; · ipureintro; exact hf
        iexact Hb
      isplitl [Hv]; · iexact Hv
      iexact Hx
    isplitl [HF1]; · iexact HF1
    iexists W'; iexact HW
  have e5' : t.val < 7 ∨ t.val = 7 := by omega
  have e9' : t.val % 4 = 0 ∨ ¬ t.val % 4 = 0 := em _
  replace c1 := mt c1.mp e0
  rw [if_neg e0]
  unfold resting slotFree
  rcases e5' with e5 | e5
  · replace c5 := c5.mpr e5
    by_cases e6 : (t.val + 1) % 4 = 0
    · have e9 : ¬ t.val % 4 = 0 := by omega
      replace c7 := mt c7.mp (by omega)
      replace c8 := mt c8.mp (by omega)
      replace c6 := c6.mpr e6
      replace c9 := mt c9.mp e9
      simp only [c1, c5, c6, c7, c8, c9, ↓reduceDIte, Prog.bind_op, Prog.bind_lift]
      iintro ⟨HF0, ⟨⟨%f1, Hb1⟩, Hv1, Hx1⟩, ⟨%W, HW⟩⟩ Hk
      iapply (wp_edge c (slot (t.val + 1)) 0 f1 _ (off12 t e5) _ _ pay4_apply) $$ Hb1
      iintro %g1 %hg1 Hb1
      iapply (wp_start c (slot (t.val + 1)) 768 15104 ((t.val + 1) / 4) 0 X g1 (qs (slot (t.val + 1))) (credit (t.val + 1)) (Strip (t.val + 1) X)
        (fun f' => strip_first (t.val + 1) e6 X g1 f' hg1) _ _ _ _ (off13 t e5) (off14 t e5) (off15 t e5) rfl _ _ _ _ _
        (credit_edge _ (Or.inl e6)).symm (credit_pos _)) $$ [Hb1 Hv1 Hx1]
      · isplitl [Hb1]; · iexact Hb1
        isplitl [Hv1]; · iexact Hv1
        iexact Hx1
      iintro HF1
      sl_step
      iapply Hk
      unfold afterPart1 flying
      rw [if_neg e9, if_pos e5]
      isplitl [HF0]; · iexact HF0
      isplitl [HF1]; · iexact HF1
      iexists W; iexact HW
    replace c6 := mt c6.mp e6
    by_cases e8 : (t.val + 1) % 4 = 3
    · have e9 : ¬ t.val % 4 = 0 := by omega
      replace c7 := mt c7.mp (by omega)
      replace c8 := c8.mpr e8
      replace c9 := mt c9.mp e9
      simp only [c1, c5, c6, c7, c8, c9, ↓reduceDIte, Prog.bind_op, Prog.bind_lift]
      iintro ⟨HF0, ⟨⟨%f1, Hb1⟩, Hv1, Hx1⟩, ⟨%W, HW⟩⟩ Hk
      iapply (wp_edge c (slot (t.val + 1)) 15104 f1 _ (off19 t e5) _ _ pay5_apply) $$ Hb1
      iintro %g1 %hg1 Hb1
      iapply (wp_start c (slot (t.val + 1)) 0 15104 ((t.val + 1) / 4) 42240 X g1 (qs (slot (t.val + 1))) (credit (t.val + 1)) (Strip (t.val + 1) X)
        (fun f' => strip_last (t.val + 1) e8 X g1 f' hg1) _ _ _ _ (off20 t e5) (off21 t e5) (off22 t e5) rfl _ _ _ _ _
        (credit_edge _ (Or.inr e8)).symm (credit_pos _)) $$ [Hb1 Hv1 Hx1]
      · isplitl [Hb1]; · iexact Hb1
        isplitl [Hv1]; · iexact Hv1
        iexact Hx1
      iintro HF1
      sl_step
      iapply Hk
      unfold afterPart1 flying
      rw [if_neg e9, if_pos e5]
      isplitl [HF0]; · iexact HF0
      isplitl [HF1]; · iexact HF1
      iexists W; iexact HW
    replace c8 := mt c8.mp e8
    have e7 : (t.val + 1) % 4 = 1 ∨ (t.val + 1) % 4 = 2 := by omega
    replace c7 := c7.mpr e7
    rcases e9' with e9 | e9
    · replace c9 := c9.mpr e9
      simp only [c1, c5, c6, c7, c8, c9, ↓reduceDIte, Prog.bind_op, Prog.bind_lift]
      iintro ⟨HF0, ⟨⟨%f1, Hb1⟩, Hv1, Hx1⟩, ⟨%W, HW⟩⟩ Hk
      iapply (wp_start c (slot (t.val + 1)) 0 15872 ((t.val + 1) / 4) ((t.val + 1) % 4 * 14336 - 768) X f1 (qs (slot (t.val + 1))) (credit (t.val + 1))
        (Strip (t.val + 1) X)
        (fun f' => strip_interior (t.val + 1) e7 X f1 f') _ _ _ _ (off16 t e5) (off17 t e5) (off18 t e5 e7) rfl _ _ _ _ _
        (credit_interior _ e7).symm (credit_pos _)) $$ [Hb1 Hv1 Hx1]
      · isplitl [Hb1]; · iexact Hb1
        isplitl [Hv1]; · iexact Hv1
        iexact Hx1
      iintro HF1
      unfold flying
      iapply (wp_arrive c (slot t.val) (qs (slot t.val)) X (credit t.val) (Strip t.val X) W _ (off23 t) _ _ _ (credit_edge _ (Or.inl e9)).symm) $$ [HF0 HW]
      · isplitl [HF0]; · iexact HF0
        iexact HW
      iintro %f %W' %hf Hb Hv Hx HW
      sl_step
      iapply Hk
      unfold afterPart1 arrived flying
      rw [if_pos e9, if_pos e5]
      isplitl [Hb Hv Hx]
      · isplitl [Hb]
        · iexists f
          isplitr; · ipureintro; exact hf
          iexact Hb
        isplitl [Hv]; · iexact Hv
        iexact Hx
      isplitl [HF1]; · iexact HF1
      iexists W'; iexact HW
    · replace c9 := mt c9.mp e9
      simp only [c1, c5, c6, c7, c8, c9, ↓reduceDIte, Prog.bind_op, Prog.bind_lift]
      iintro ⟨HF0, ⟨⟨%f1, Hb1⟩, Hv1, Hx1⟩, ⟨%W, HW⟩⟩ Hk
      iapply (wp_start c (slot (t.val + 1)) 0 15872 ((t.val + 1) / 4) ((t.val + 1) % 4 * 14336 - 768) X f1 (qs (slot (t.val + 1))) (credit (t.val + 1))
        (Strip (t.val + 1) X)
        (fun f' => strip_interior (t.val + 1) e7 X f1 f') _ _ _ _ (off16 t e5) (off17 t e5) (off18 t e5 e7) rfl _ _ _ _ _
        (credit_interior _ e7).symm (credit_pos _)) $$ [Hb1 Hv1 Hx1]
      · isplitl [Hb1]; · iexact Hb1
        isplitl [Hv1]; · iexact Hv1
        iexact Hx1
      iintro HF1
      sl_step
      iapply Hk
      unfold afterPart1 flying
      rw [if_neg e9, if_pos e5]
      isplitl [HF0]; · iexact HF0
      isplitl [HF1]; · iexact HF1
      iexists W; iexact HW
  · have e5n : ¬ t.val < 7 := by omega
    have e9 : ¬ t.val % 4 = 0 := by omega
    replace c5 := mt c5.mp e5n
    replace c9 := mt c9.mp e9
    simp only [c1, c5, c9, ↓reduceDIte, Prog.bind_op, Prog.bind_lift]
    iintro ⟨HF0, ⟨⟨%f1, Hb1⟩, Hv1, Hx1⟩, ⟨%W, HW⟩⟩ Hk
    sl_step
    iapply Hk
    unfold afterPart1
    rw [if_neg e9, if_neg e5n]
    unfold resting slotFree
    isplitl [HF0]; · iexact HF0
    isplitr [HW]
    · isplitl [Hb1]; · iexists f1; iexact Hb1
      isplitl [Hv1]; · iexact Hv1
      iexact Hx1
    iexists W; iexact HW

/-! ## The second part: the wait of the other steps, and the products of the first three rows of taps -/

/-- Row `k` of the taps' block. -/
abbrev tapRow (d : S1x5x96x480.Idx → Elt F .bf16) (k : ℕ) (inb : ∀ a, (![0, k, 0, 0] : Fin 4 → ℕ) a + S1x1x96x480.size a ≤ S1x5x96x480.size a) :
    S1x1x96x480.Idx → Elt F .bf16 := fun y => d ((Rect.unit (s := S1x5x96x480) ![0, k, 0, 0] S1x1x96x480.size inb).emb y)

theorem wp_part2 (d : S1x5x96x480.Idx → Elt F .bf16) (v2 v29 : BitVec 32) (v33 : BitVec 1) (v : BitVec 32) (Q : _ → sProp 𝕄) :
    iprop(afterPart1 c t X ∗ owns (c : Thread nD τ) m3 fullShare d)
      ⊢ iprop((arrived c X t.val -∗ (if t.val < 7 then flying c X (t.val + 1) else resting c X (t.val + 1)) -∗ (∃ W, owes (c : Thread nD τ) 0 W)
            -∗ owns (c : Thread nD τ) m3 fullShare d
            -∗ Q ⟨k1_pay6 (stripV t.val X), k1_pay7 (stripV t.val X) (tapRow d 0 inb_S1x5x96x480_S1x1x96x480_0_0_0_0)
                (tapRow d 1 inb_S1x5x96x480_S1x1x96x480_0_1_0_0) (tapRow d 2 inb_S1x5x96x480_S1x1x96x480_0_2_0_0),
              k1_pay8 (tapRow d 3 inb_S1x5x96x480_S1x1x96x480_0_3_0_0), k1_pay9 (stripV t.val X), constant S96x14336 .f32 0x00000000#32⟩)
        -∗ wp frame (wpE defs 𝒱 (c : Thread nD τ) none) Set.univ
          (k1_part2 (grid1.coords t) (Memref.whole main_v96) (Memref.isWhole_whole _) m3 h3 m4 h4 (Memref.whole cc1_scratch0) (Memref.isWhole_whole _) cc1_scratch1
            v2 v29 v33 v) Q) := by
  have ht : t.val < 8 := t.isLt
  have c10 := cond10_iff t
  have c11 := cond11_iff t
  rw [k1_part2_eq_skeleton]; unfold k1_part2_skel
  have tail : ∀ (f : S2x96x15872.Idx → Elt F .bf16) (hf : Strip t.val X f),
      iprop((bufLoc c ↦[slotSet (slot t.val)]{fullShare} f) ∗ owns (c : Thread nD τ) m3 fullShare d)
        ⊢ iprop(((bufLoc c ↦[slotSet (slot t.val)]{fullShare} f) -∗ owns (c : Thread nD τ) m3 fullShare d
            -∗ Q ⟨k1_pay6 (stripV t.val X), k1_pay7 (stripV t.val X) (tapRow d 0 inb_S1x5x96x480_S1x1x96x480_0_0_0_0)
                (tapRow d 1 inb_S1x5x96x480_S1x1x96x480_0_1_0_0) (tapRow d 2 inb_S1x5x96x480_S1x1x96x480_0_2_0_0),
              k1_pay8 (tapRow d 3 inb_S1x5x96x480_S1x1x96x480_0_3_0_0), k1_pay9 (stripV t.val X), constant S96x14336 .f32 0x00000000#32⟩)
          -∗ wp frame (wpE defs 𝒱 (c : Thread nD τ) none) Set.univ
            (.op (.load (Memref.whole cc1_scratch0) (Rect.unit (s := S2x96x15872) (k1_off32 (grid1.coords t)) S1x96x15872.size (k1_off32_inb (grid1.coords t))).toLoadRect (View.loadsAt_vmem h_S1x96x15872)) fun v42 =>
              .op (.load m3 (Rect.unit (s := S1x5x96x480) ![0, 0, 0, 0] S1x1x96x480.size inb_S1x5x96x480_S1x1x96x480_0_0_0_0).toLoadRect (View.loadsAt_vmem h_S1x1x96x480)) fun v50 =>
              .op (.load m3 (Rect.unit (s := S1x5x96x480) ![0, 1, 0, 0] S1x1x96x480.size inb_S1x5x96x480_S1x1x96x480_0_1_0_0).toLoadRect (View.loadsAt_vmem h_S1x1x96x480)) fun v54 =>
              .op (.load m3 (Rect.unit (s := S1x5x96x480) ![0, 2, 0, 0] S1x1x96x480.size inb_S1x5x96x480_S1x1x96x480_0_2_0_0).toLoadRect (View.loadsAt_vmem h_S1x1x96x480)) fun v59 =>
              .op (.load m3 (Rect.unit (s := S1x5x96x480) ![0, 3, 0, 0] S1x1x96x480.size inb_S1x5x96x480_S1x1x96x480_0_3_0_0).toLoadRect (View.loadsAt_vmem h_S1x1x96x480)) fun v64 =>
              .ret ⟨k1_pay6 v42, k1_pay7 v42 v50 v54 v59, k1_pay8 v64, k1_pay9 v42, constant S96x14336 .f32 0x00000000#32⟩) Q) := by
    intro f hf
    have hsub : ((Memref.whole cc1_scratch0 : Memref sig .tc .vmem S2x96x15872 .bf16).access
        (Rect.unit (s := S2x96x15872) (k1_off32 (grid1.coords t)) S1x96x15872.size (k1_off32_inb (grid1.coords t)))).set ⊆ slotSet (slot t.val) := by
      rw [show ((Memref.whole cc1_scratch0 : Memref sig .tc .vmem S2x96x15872 .bf16).access
        (Rect.unit (s := S2x96x15872) (k1_off32 (grid1.coords t)) S1x96x15872.size (k1_off32_inb (grid1.coords t)))).set = _ from View.set_slice_whole cc1_scratch0 _]
      intro j hj
      rw [Rect.mem_set_unit] at hj
      have h0 := hj 0
      rw [off32 t] at h0
      simp at h0
      exact (mem_slotSet _ j).mpr (by show (j 0).val = t.val % 2; omega)
    iintro ⟨Hb, H3⟩ Hk
    iapply (wp_load_rect 𝒱 (c : Thread nD τ) none Set.univ (m := (Memref.whole cc1_scratch0 : Memref sig .tc .vmem S2x96x15872 .bf16))
      (r := Rect.unit (s := S2x96x15872) (k1_off32 (grid1.coords t)) S1x96x15872.size (k1_off32_inb (grid1.coords t))) (S := slotSet (slot t.val)) hsub) $$ Hb
    iintro Hb
    rw [read_strip t.val ht X f hf _ (off32 t)]
    iapply (OwnsSteps.wp_load_owns 𝒱 c (tapRow d 0 inb_S1x5x96x480_S1x1x96x480_0_0_0_0) rfl) $$ H3
    iintro H3
    iapply (OwnsSteps.wp_load_owns 𝒱 c (tapRow d 1 inb_S1x5x96x480_S1x1x96x480_0_1_0_0) rfl) $$ H3
    iintro H3
    iapply (OwnsSteps.wp_load_owns 𝒱 c (tapRow d 2 inb_S1x5x96x480_S1x1x96x480_0_2_0_0) rfl) $$ H3
    iintro H3
    iapply (OwnsSteps.wp_load_owns 𝒱 c (tapRow d 3 inb_S1x5x96x480_S1x1x96x480_0_3_0_0) rfl) $$ H3
    iintro H3
    sl_step
    iapply Hk $$ Hb H3
  unfold afterPart1
  by_cases e9 : t.val % 4 = 0
  · replace c10 := mt c10.mp (by omega)
    replace c11 := mt c11.mp (by omega)
    rw [if_pos e9]
    unfold arrived
    simp only [c10, c11, ↓reduceDIte, Prog.bind_op, Prog.bind_lift]
    iintro ⟨⟨H0, H1, ⟨%W, HW⟩⟩, H3⟩ Hk
    icases H0 with ⟨⟨%f, %hf, Hb⟩, Hv, Hx⟩
    iapply (tail f hf) $$ [Hb H3]
    · isplitl [Hb]; · iexact Hb
      iexact H3
    iintro Hb H3
    iapply Hk $$ [Hb Hv Hx] H1 [HW] H3
    · isplitl [Hb]
      · iexists f
        isplitr; · ipureintro; exact hf
        iexact Hb
      isplitl [Hv]; · iexact Hv
      iexact Hx
    iexists W; iexact HW
  rw [if_neg e9]
  unfold flying arrived
  by_cases e3 : t.val % 4 = 3
  · replace c10 := mt c10.mp (by omega)
    replace c11 := c11.mpr e3
    simp only [c10, c11, ↓reduceDIte, Prog.bind_op, Prog.bind_lift]
    iintro ⟨⟨H0, H1, ⟨%W, HW⟩⟩, H3⟩ Hk
    iapply (wp_arrive c (slot t.val) (qs (slot t.val)) X (credit t.val) (Strip t.val X) W _ (off29 t) _ _ _ (credit_edge _ (Or.inr e3)).symm) $$ [H0 HW]
    · isplitl [H0]; · iexact H0
      iexact HW
    iintro %f %W' %hf Hb Hv Hx HW
    iapply (tail f hf) $$ [Hb H3]
    · isplitl [Hb]; · iexact Hb
      iexact H3
    iintro Hb H3
    iapply Hk $$ [Hb Hv Hx] H1 [HW] H3
    · isplitl [Hb]
      · iexists f
        isplitr; · ipureintro; exact hf
        iexact Hb
      isplitl [Hv]; · iexact Hv
      iexact Hx
    iexists W'; iexact HW
  · have e7 : t.val % 4 = 1 ∨ t.val % 4 = 2 := by omega
    replace c10 := c10.mpr e7
    replace c11 := mt c11.mp e3
    simp only [c10, c11, ↓reduceDIte, Prog.bind_op, Prog.bind_lift]
    iintro ⟨⟨H0, H1, ⟨%W, HW⟩⟩, H3⟩ Hk
    iapply (wp_arrive c (slot t.val) (qs (slot t.val)) X (credit t.val) (Strip t.val X) W _ (off26 t) _ _ _ (credit_interior _ e7).symm) $$ [H0 HW]
    · isplitl [H0]; · iexact H0
      iexact HW
    iintro %f %W' %hf Hb Hv Hx HW
    iapply (tail f hf) $$ [Hb H3]
    · isplitl [Hb]; · iexact Hb
      iexact H3
    iintro Hb H3
    iapply Hk $$ [Hb Hv Hx] H1 [HW] H3
    · isplitl [Hb]
      · iexists f
        isplitr; · ipureintro; exact hf
        iexact Hb
      isplitl [Hv]; · iexact Hv
      iexact Hx
    iexists W'; iexact HW

/-- The block of the result a step writes, from its strip and its image's taps. -/
def outBlk (d : S1x5x96x480.Idx → Elt F .bf16) (v : S1x96x15872.Idx → Elt F .bf16) : S1x96x56x224.Idx → Elt F .f32 :=
  k1_pay1 (k1_pay6 v) (k1_pay7 v (tapRow d 0 inb_S1x5x96x480_S1x1x96x480_0_0_0_0)
      (tapRow d 1 inb_S1x5x96x480_S1x1x96x480_0_1_0_0) (tapRow d 2 inb_S1x5x96x480_S1x1x96x480_0_2_0_0))
    (k1_pay8 (tapRow d 3 inb_S1x5x96x480_S1x1x96x480_0_3_0_0)) (k1_pay9 v) (constant S96x14336 .f32 0x00000000#32)
    (tapRow d 4 inb_S1x5x96x480_S1x1x96x480_0_4_0_0)

/-- The slots before step `n`: none copied before the first and after the last, else step `n`'s on its way and the other at rest. -/
def slots (c : Dev nD) (X : S2x96x57344.Idx → Elt F .bf16) (n : ℕ) : sProp 𝕄 :=
  iprop((if n = 0 ∨ n = 8 then resting c X n else flying c X n) ∗ resting c X (n + 1))

/-- One step of the kernel. -/
theorem wp_body (d : S1x5x96x480.Idx → Elt F .bf16) (e : S1x96x56x224.Idx → Elt F .f32) (Q : PUnit → sProp 𝕄) :
    iprop(slots c X t.val ∗ owns (c : Thread nD τ) m3 fullShare d ∗ owns (c : Thread nD τ) m4 fullShare e ∗ (∃ W, owes (c : Thread nD τ) 0 W))
      ⊢ iprop((slots c X (t.val + 1) -∗ owns (c : Thread nD τ) m3 fullShare d -∗ owns (c : Thread nD τ) m4 fullShare (outBlk d (stripV t.val X))
            -∗ (∃ W, owes (c : Thread nD τ) 0 W) -∗ Q ⟨⟩)
        -∗ wp frame (wpE defs 𝒱 (c : Thread nD τ) none) Set.univ
          (cc1__conv_body (grid1.coords t) (Memref.whole main_v96) (Memref.isWhole_whole _) m3 h3 m4 h4 (Memref.whole cc1_scratch0) (Memref.isWhole_whole _) cc1_scratch1) Q) := by
  have ht : t.val < 8 := t.isLt
  rw [cc1__conv_body_eq_skeleton]; unfold cc1__conv_body_skel
  unfold slots outBlk
  iintro ⟨⟨H0, H1⟩, H3, H4, HW⟩ Hk
  rw [wp_bind]
  iapply (wp_part1 c t X m3 h3 m4 h4 𝒱 defs) $$ [H0 H1 HW]
  · isplitl [H0]
    · by_cases e0 : t.val = 0
      · rw [if_pos e0, if_pos (Or.inl e0)]; exact .rfl
      · rw [if_neg e0, if_neg (by omega)]; exact .rfl
    isplitl [H1]; · iexact H1
    iexact HW
  iintro %r HA
  rw [wp_bind]
  iapply (wp_part2 c t X m3 h3 m4 h4 𝒱 defs d) $$ [HA H3]
  · isplitl [HA]; · iexact HA
    iexact H3
  iintro H0 H1 HW H3
  simp only [Prog.bind_op, Prog.bind_lift]
  iapply (OwnsSteps.wp_load_owns 𝒱 c (tapRow d 4 inb_S1x5x96x480_S1x1x96x480_0_4_0_0) rfl) $$ H3
  iintro H3
  iapply (OwnsSteps.wp_load_owns 𝒱 c _ rfl) $$ H4
  iintro H4
  iapply (OwnsSteps.wp_store_owns 𝒱 c (by decide)) $$ H4
  iintro H4
  sl_step
  iapply Hk $$ [H0 H1] H3 H4 HW
  isplitl [H1]
  · by_cases e5 : t.val < 7
    · rw [if_pos e5, if_neg (by omega)]; exact .rfl
    · rw [if_neg e5, if_pos (by omega)]; exact .rfl
  · rw [resting_add_two]
    exact arrived_resting c X t.val

end Cert.KernelIdeal.Conv
-- ==== Proof.RunRegions.lean ====
/-
  The two kernel launches as segments of the program's run: what each leaves in its arrays, from what it found there.
-/
module

public import proofs.«01_k».proof.Proof.PrepBody
public import proofs.«01_k».proof.Proof.ConvBody
public import proofs.«01_k».proof.Proof.Gen.KernelIdeal.Regions
public import Idealize.ShloMosaic.Lib.Pipeline.RegionArraysS
public import Idealize.ShloMosaic.Lib.Pipeline.RegionArraysD
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.ValueKit
public import Idealize.ShloMosaic.Lib.Pointwise
public import Idealize.ShloMosaic.Lib.Ring
public import Idealize.ShloMosaic.Lib.Transfers
public import Idealize.ShloMosaic.Lib.Pipeline.Value
public import Idealize.ShloMosaic.Lib.Tactic

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The assertions of the proof: the pipeline's resources beside the transfers' counters. -/
local notation "𝕄" => MT nD τ sig Unit (Elt F) ℕ (Pipeline.UD sig nD τ) ℕ

open Idealize.ShloMosaic.Pipeline (Dat BodyObligation RegionSeg)

/-! ## The preparing launch -/

section Prep

variable (V : Valuation τ sig (Elt F)) (c : Dev nD)

/-- The block of the image step `t` reads. -/
def imgBlk (t : Fin cfg0.N) : S1x96x56x224.Idx → Elt F .f32 :=
  ((cfg0.win 0).blk t).view.read (Elt F) (V main_arg0)

/-- The pool after step `n`. -/
def poolAfter : (n : ℕ) → n < 8 → S1x1x96.Idx → Elt F .f32
  | 0, h => Prep.poolNext 0 (imgBlk V ⟨0, h⟩) k0_pay1
  | n + 1, h => Prep.poolNext (n + 1) (imgBlk V ⟨n + 1, h⟩) (poolAfter n (Nat.lt_of_succ_lt h))

/-- The preparing launch's contents, step by step. -/
def dat0 : Dat τ (Elt F) Unit ℕ (Pipeline.UD sig nD τ) ℕ cfg0 c where
  A w := V (Proc.devRef .tc (Pipeline.arrRef spec0 w))
  after w t := match w with
    | ⟨0, _⟩ => imgBlk V t
    | ⟨1, _⟩ => poolAfter V t.val t.isLt
    | ⟨2, _⟩ => k0_pay4 (imgBlk V t)
  Φ _ := iprop(Pipeline.scopedRest (Ix := Unit) (Name := ℕ) (U := Pipeline.UD sig nD τ) (Lvl := ℕ) (Val := Elt F) spec0 c ∗ ∃ r, prngReg c r)
  q _ := fullShare
  owed _ := 0

theorem before0_img (t : Fin cfg0.N) (d) : (dat0 V c).before 0 t d = imgBlk V t := by
  rw [(dat0 V c).before_fetched 0 t (fetch0_0 t)]
  rfl

/-- The pool the step's update starts from does not depend on what a reset buffer held. -/
theorem pool_next (t : Fin cfg0.N) (d) :
    Prep.poolNext t.val (imgBlk V t) ((dat0 V c).before 1 t d) = poolAfter V t.val t.isLt := by
  obtain ⟨n, hn⟩ := t
  cases n with
  | zero => rfl
  | succ n =>
    show Prep.poolNext (n + 1) (imgBlk V ⟨n + 1, hn⟩) _ = Prep.poolNext (n + 1) (imgBlk V ⟨n + 1, hn⟩) (poolAfter V n _)
    by_cases h : (n + 1) % 4 = 0
    · unfold Prep.poolNext; rw [if_pos h, if_pos h]
    · rw [(dat0 V c).before_out_kept 1 rfl ⟨n + 1, hn⟩ (Nat.succ_ne_zero n) ?_ (fun _ => rfl) (fun _ _ => rfl)]
      · rfl
      · refine Bool.eq_false_iff.mpr fun hf => h ?_
        have := (flush0_1 ⟨n, Nat.lt_of_succ_lt hn⟩).mp hf
        simp only at this; omega

theorem defs₀_row0 (t : Fin cfg0.N) : defs₀ (F := F) .tc cfg0.body (cfg0.bodyArgs t (cfg0.slots t)) = bodyAt0 t := by
  unfold defs₀; rw [Defs.onTc_tc]

theorem body0 : BodyObligation (dat0 V c) (defs₀ (F := F)) Variants.none () Set.univ := fun t => by
  rw [bigSep_W0, bigSep_W0, defs₀_row0]
  unfold Dat.owesAt Pipeline.owesWithin
  rw [show (dat0 V c).owed t.castSucc = 0 from rfl, show (dat0 V c).owed t.succ = 0 from rfl,
    show (dat0 V c).Φ t.succ = (dat0 V c).Φ t.castSucc from rfl]
  have step := fun (d0 d1 d2) (Q : PUnit → sProp 𝕄) => Prep.wp_body (defs := defs₀ (F := F)) c Variants.none t
    (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2))
    ((dat0 V c).before 0 t d0) ((dat0 V c).before 1 t d1) ((dat0 V c).before 2 t d2) Q
  simp only [before0_img V c t, pool_next V c t] at step
  iintro ⟨HΦ, ⟨%W, %hW, HO⟩, ⟨%d0, H0⟩, ⟨%d1, H1⟩, ⟨%d2, H2⟩⟩
  rw [before0_img V c t]
  iapply (step d0 d1 d2 _) $$ [H0 H1 H2]
  · isplitl [H0]; · iexact H0
    isplitl [H1]; · iexact H1
    iexact H2
  iintro H0 H1 H2
  isplitl [HΦ]; · iexact HΦ
  isplitl [HO]
  · iexists W; isplitr; · ipureintro; exact fun _ _ => Or.inl trivial
    iexact HO
  isplitl [H0]; · iexact H0
  isplitl [H1]; · iexact H1
  iexact H2

end Prep

/-! ## The convolution's launch -/

section Conv

variable (V : Valuation τ sig (Elt F)) (c : Dev nD)

/-- The taps of the image step `t` works on. -/
def wBlk (t : Fin cfg1.N) : S1x5x96x480.Idx → Elt F .bf16 :=
  ((cfg1.win 0).blk t).view.read (Elt F) (V main_v95)

/-- The block of the result step `t` leaves. -/
def resBlk (t : Fin cfg1.N) : S1x96x56x224.Idx → Elt F .f32 :=
  Conv.outBlk (wBlk V t) (Conv.stripV t.val (V main_v96))

/-- The preparing launch's staging buffers, at anything. -/
def stagings (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- What the convolution's steps hold besides their windows: the slots, what is left of the image, the idle buffers. -/
def inv1 (n : ℕ) : sProp 𝕄 :=
  iprop(Conv.slots c (V main_v96) n ∗ (Conv.imgLoc c ↦{Transfers.shareDrop fullShare 2} V main_v96) ∗ stagings c ∗ ∃ r, prngReg c r)

/-- The convolution's contents, step by step. -/
def dat1 : Dat τ (Elt F) Unit ℕ (Pipeline.UD sig nD τ) ℕ cfg1 c where
  A w := V (Proc.devRef .tc (Pipeline.arrRef spec1 w))
  after w t := match w with
    | ⟨0, _⟩ => wBlk V t
    | ⟨1, _⟩ => resBlk V t
  Φ t := inv1 V c t.val
  q _ := fullShare
  owed _ := 0

theorem before1_taps (t : Fin cfg1.N) (d) : (dat1 V c).before 0 t d = wBlk V t := by
  rw [(dat1 V c).before_in_eq_fetched 0 rfl (fun _ => rfl) (fun _ _ _ => rfl) (fun _ => rfl) t d]
  rfl

theorem defs₀_row1 (t : Fin cfg1.N) : defs₀ (F := F) .tc cfg1.body (cfg1.bodyArgs t (cfg1.slots t)) = bodyAt1 t := by
  unfold defs₀; rw [Defs.onTc_tc]

theorem body1 : BodyObligation (dat1 V c) (defs₀ (F := F)) Variants.none () Set.univ := fun t => by
  rw [bigSep_W1, bigSep_W1, defs₀_row1]
  unfold Dat.owesAt Pipeline.owesWithin
  rw [show (dat1 V c).owed t.castSucc = 0 from rfl, show (dat1 V c).owed t.succ = 0 from rfl,
    show (dat1 V c).Φ t.succ = inv1 V c (t.val + 1) from rfl, show (dat1 V c).Φ t.castSucc = inv1 V c t.val from rfl]
  unfold inv1
  have step := fun (d0 d1) (Q : PUnit → sProp 𝕄) => Conv.wp_body c t (V main_v96)
    (win1_0.stage (cfg1.slots t 0)) (hstage1_0 ((cfg1.slots t 0).cast nbuf1_0)) (win1_1.stage (cfg1.slots t 1)) (hstage1_1 ((cfg1.slots t 1).cast nbuf1_1))
    Variants.none (defs₀ (F := F)) ((dat1 V c).before 0 t d0) ((dat1 V c).before 1 t d1) Q
  simp only [before1_taps V c t] at step
  iintro ⟨⟨HS, HI, HR, HP⟩, ⟨%W, %hW, HO⟩, ⟨%d0, H0⟩, ⟨%d1, H1⟩⟩
  rw [before1_taps V c t]
  iapply (step d0 d1 _) $$ [HS H0 H1 HO]
  · isplitl [HS]; · iexact HS
    isplitl [H0]; · iexact H0
    isplitl [H1]; · iexact H1
    iexists W; iexact HO
  iintro HS H0 H1 ⟨%W', HO⟩
  isplitl [HS HI HR HP]
  · isplitl [HS]; · iexact HS
    isplitl [HI]; · iexact HI
    isplitl [HR]; · iexact HR
    iexact HP
  isplitl [HO]
  · iexists W'; isplitr; · ipureintro; exact fun _ _ => Or.inl trivial
    iexact HO
  isplitl [H0]; · iexact H0
  iexact H1

/-- The kernel's own transfer counters. -/
abbrev osem1 : Fin 2 → SemLoc sig := fun s => .dma (Conv.semN s)

theorem ownSemFacts1 : Pipeline.OwnSemFacts spec1 osem1 := by decide

theorem ownSems1_eq :
    (Pipeline.ownSems0 (Ix := Unit) (Name := ℕ) (U := Pipeline.UD sig nD τ) (Lvl := ℕ) (Val := Elt F) (τ := τ) osem1 c : sProp 𝕄)
      = iprop(semVal ((c : Thread nD τ), SemLoc.dma (Conv.semN 0)) 0 ∗ semVal ((c : Thread nD τ), SemLoc.dma (Conv.semN 1)) 0) :=
  Pipeline.ownSems0_eq_of_list c osem1 [0, 1] (by decide) (by decide)

/-- The scratch buffer is its two slots. -/
theorem slots_cover : Conv.slotSet 0 ∪ Conv.slotSet 1 = Finset.univ := by
  ext j
  have := (j 0).isLt
  simp only [Finset.mem_union, Conv.mem_slotSet, Finset.mem_univ, iff_true]
  show (j 0).val = 0 ∨ (j 0).val = 1
  have h2 : (j 0).val < 2 := (j 0).isLt
  omega

theorem slots_disjoint : Disjoint (Conv.slotSet 0) (Conv.slotSet 1) := by
  rw [Finset.disjoint_left]
  intro j h0 h1
  rw [Conv.mem_slotSet] at h0 h1
  rw [h0] at h1
  exact absurd h1 (by decide)

/-- The slots and the buffers at rest, from the whole scratch buffer, the counters at zero and the whole image. -/
theorem enter1 : iprop(Pipeline.scopedRest (Ix := Unit) (Name := ℕ) (U := Pipeline.UD sig nD τ) (Lvl := ℕ) (Val := Elt F) spec1 c
      ∗ (∃ r, prngReg c r) ∗ Pipeline.ownSems0 osem1 c ∗ (Conv.imgLoc c ↦{fullShare} V main_v96)) ⊢ (inv1 V c 0 : sProp 𝕄) := by
  have htok : (Conv.imgLoc c ↦{fullShare} V main_v96 : sProp 𝕄) ⊢ iprop((Conv.imgLoc c ↦{Transfers.shareDrop fullShare 2} V main_v96) ∗ (Conv.imgLoc c ↦{Transfers.shareTok fullShare 2 0} V main_v96) ∗ Conv.imgLoc c ↦{Transfers.shareTok fullShare 2 1} V main_v96) :=
    (Transfers.pointsTo_toks_split (ℓ := Conv.imgLoc c) (S := Finset.univ) (Ix := Unit) (Name := ℕ) (U := Pipeline.UD sig nD τ) (Lvl := ℕ) (f := V main_v96) fullShare 2).trans (Entails.of_eq (by rw [BI.bigSep_fin_two]; rfl))
  have hsplit : ∀ f : Buf (Elt F) (Conv.bufLoc c), (Conv.bufLoc c ↦{fullShare} f : sProp 𝕄)
      ⊢ iprop((Conv.bufLoc c ↦[Conv.slotSet 0]{fullShare} f) ∗ Conv.bufLoc c ↦[Conv.slotSet 1]{fullShare} f) := fun f => by
    have h := (pointsTo_union (Ix := Unit) (Val := Elt F) (Name := ℕ) (U := Pipeline.UD sig nD τ) (Lvl := ℕ) (ℓ := Conv.bufLoc c) (q := fullShare) (f := f) slots_disjoint).1
    rw [slots_cover] at h
    exact h
  rw [scopedRest1_eq, ownSems1_eq]
  unfold inv1 Conv.slots stagings
  rw [if_pos (Or.inl rfl)]
  unfold Conv.resting Conv.slotFree
  iintro ⟨⟨A0, A1, A2, A3, A4, A5, ⟨%f, HS⟩⟩, HP, ⟨S0, S1⟩, HI⟩
  ihave HI := htok $$ HI
  icases HI with ⟨HI, I0, I1⟩
  ihave HS := (hsplit f) $$ HS
  icases HS with ⟨B0, B1⟩
  isplitl [B0 B1 S0 S1 I0 I1]
  · isplitl [B0 S0 I0]
    · isplitl [B0]; · iexists f; iexact B0
      isplitl [S0]; · iexact S0
      iexact I0
    · isplitl [B1]; · iexists f; iexact B1
      isplitl [S1]; · iexact S1
      iexact I1
  isplitl [HI]; · iexact HI
  isplitr [HP]; swap; · iexact HP
  isplitl [A0]; · iexact A0
  isplitl [A1]; · iexact A1
  isplitl [A2]; · iexact A2
  isplitl [A3]; · iexact A3
  isplitl [A4]; · iexact A4
  iexact A5

/-- And back. -/
theorem leave1 : (inv1 V c 8 : sProp 𝕄) ⊢ iprop(Pipeline.scopedRest (Ix := Unit) (Name := ℕ) (U := Pipeline.UD sig nD τ) (Lvl := ℕ) (Val := Elt F) spec1 c
      ∗ (∃ r, prngReg c r) ∗ Pipeline.ownSems0 osem1 c ∗ (Conv.imgLoc c ↦{fullShare} V main_v96)) := by
  have htok : iprop((Conv.imgLoc c ↦{Transfers.shareDrop fullShare 2} V main_v96) ∗ (Conv.imgLoc c ↦{Transfers.shareTok fullShare 2 0} V main_v96) ∗ Conv.imgLoc c ↦{Transfers.shareTok fullShare 2 1} V main_v96) ⊢ (Conv.imgLoc c ↦{fullShare} V main_v96 : sProp 𝕄) :=
    (Entails.of_eq (by rw [BI.bigSep_fin_two]; rfl)).trans (Transfers.pointsTo_toks_join (ℓ := Conv.imgLoc c) (S := Finset.univ) (Ix := Unit) (Name := ℕ) (U := Pipeline.UD sig nD τ) (Lvl := ℕ) (f := V main_v96) fullShare 2)
  have hjoin : ∀ f g : Buf (Elt F) (Conv.bufLoc c), iprop((Conv.bufLoc c ↦[Conv.slotSet 0]{fullShare} f) ∗ Conv.bufLoc c ↦[Conv.slotSet 1]{fullShare} g)
      ⊢ (Conv.bufLoc c ↦{fullShare} ((Conv.slotSet 1).piecewise g f) : sProp 𝕄) := fun f g => by
    have h := (pointsTo_join (Ix := Unit) (Val := Elt F) (Name := ℕ) (U := Pipeline.UD sig nD τ) (Lvl := ℕ) (ℓ := Conv.bufLoc c) (q := fullShare) (f := f) (g := g) slots_disjoint)
    rw [slots_cover] at h
    exact h
  rw [scopedRest1_eq, ownSems1_eq]
  unfold inv1 Conv.slots stagings
  rw [if_pos (Or.inr rfl)]
  unfold Conv.resting Conv.slotFree
  iintro ⟨⟨⟨⟨%f, B0⟩, S0, I0⟩, ⟨⟨%g, B1⟩, S1, I1⟩⟩, HI, ⟨A0, A1, A2, A3, A4, A5⟩, HP⟩
  isplitl [A0 A1 A2 A3 A4 A5 B0 B1]
  · isplitl [A0]; · iexact A0
    isplitl [A1]; · iexact A1
    isplitl [A2]; · iexact A2
    isplitl [A3]; · iexact A3
    isplitl [A4]; · iexact A4
    isplitl [A5]; · iexact A5
    iexists _
    iapply (hjoin f g)
    isplitl [B0]; · iexact B0
    iexact B1
  isplitl [HP]; · iexact HP
  isplitl [S0 S1]
  · isplitl [S0]; · iexact S0
    iexact S1
  iapply htok
  isplitl [HI]; · iexact HI
  isplitl [I0]; · iexact I0
  iexact I1

end Conv

end Cert.KernelIdeal.Run

end
-- ==== Proof.Run.lean ====
/-
  The whole run of the program: every execution ends with each buffer at the contents followed through the host
  operations and the two kernel launches, and with every semaphore counter at zero.
-/
module

public import proofs.«01_k».proof.Proof.RunRegions
public import Idealize.ShloMosaic.Lib.StableHlo.RunHlo
public import proofs.«01_k».proof.Proof.PrepBody
public import proofs.«01_k».proof.Proof.ConvBody
public import proofs.«01_k».proof.Proof.Gen.KernelIdeal.Regions
public import Idealize.ShloMosaic.Lib.Pipeline.RegionArraysS
public import Idealize.ShloMosaic.Lib.Pipeline.RegionArraysD
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.ValueKit
public import Idealize.ShloMosaic.Lib.Pointwise
public import Idealize.ShloMosaic.Lib.Ring
public import Idealize.ShloMosaic.Lib.Transfers
public import Idealize.ShloMosaic.Lib.Pipeline.Value
public import Idealize.ShloMosaic.Lib.Tactic

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

open Idealize.ShloMosaic.Pipeline (Dat BodyObligation RegionSeg)

variable (m : (ℓ : Loc nD τ sig) → Buf (Elt F) ℓ) (ρ : Dev nD → PrngReg)

/-! ## What the launches leave -/

/-- What the preparing launch leaves in each buffer. -/
def outsPrep : Outs (F := F) := fun _ r c => Pipeline.afterRegion (dat0 (V1 m c) c) (V1 m c) (Proc.devRef .tc r)

/-- The buffers when the convolution is launched. -/
def VC (c : Dev nD) : Valuation τ sig (Elt F) := V11 m (outsPrep m) c

/-- What each launch leaves in each buffer. -/
def outs : Outs (F := F) := fun J r c =>
  if J = 12 then Pipeline.afterRegion (dat1 (VC m c) c) (VC m c) (Proc.devRef .tc r) else outsPrep m J r c

theorem V2_outs (c : Dev nD) : V2 m (outs m) c = V2 m (outsPrep m) c := by
  unfold V2
  rw [show outs m 2 main_v0_0 c = outsPrep m 2 main_v0_0 c from if_neg (by decide),
    show outs m 2 main_v0_1 c = outsPrep m 2 main_v0_1 c from if_neg (by decide)]

theorem V11_outs (c : Dev nD) : V11 m (outs m) c = VC m c := by
  unfold VC V11 V10 V9 V8 V7 V6 V5 V4 V3
  rw [V2_outs]

/-- After the preparing launch: its two results, everything else as it was. -/
theorem after_prep (c : Dev nD) : Pipeline.afterRegion (dat0 (V1 m c) c) (V1 m c) = V2 m (outs m) c := by
  rw [V2_outs]
  funext b
  unfold V2
  by_cases h1 : b = Proc.devRef .tc main_v0_1
  · subst h1; rw [Function.update_self]; rfl
  rw [Function.update_of_ne h1]
  by_cases h0 : b = Proc.devRef .tc main_v0_0
  · subst h0; rw [Function.update_self]; rfl
  rw [Function.update_of_ne h0]
  by_cases ha : b = Proc.devRef .tc main_arg0
  · subst ha
    exact Pipeline.afterRegion_keeps (dat0 (V1 m c) c) (V1 m c) winFacts0.arr_inj (fun _ => rfl) main_arg0
      (by decide)
  · refine Pipeline.afterRegion_off (dat0 (V1 m c) c) (V1 m c) {b} b (Finset.mem_sdiff.mpr ⟨Finset.mem_singleton_self b, fun hb => ?_⟩)
    obtain ⟨r, hr, e⟩ := Finset.mem_map.mp hb
    obtain ⟨w, -, rfl⟩ := Finset.mem_image.mp hr
    fin_cases w
    · exact ha e.symm
    · exact h0 e.symm
    · exact h1 e.symm

theorem V12_result (c : Dev nD) : V12 m (outs m) c main_v97 = (dat1 (VC m c) c).arrAt 1 8 := by
  unfold V12
  rw [Function.update_of_ne (by decide), Function.update_self]
  show Pipeline.afterRegion (dat1 (VC m c) c) (VC m c) (Proc.devRef .tc (Pipeline.arrRef spec1 1)) = _
  exact Pipeline.afterRegion_arr (dat1 (VC m c) c) (VC m c) winFacts1.arr_inj 1

/-- Off its result, the convolution leaves every buffer as it was. -/
theorem V12_off (c : Dev nD) (b : DevRef τ sig) (hb : b ≠ Proc.devRef .tc main_v97) : V12 m (outs m) c b = VC m c b := by
  unfold V12
  rw [V11_outs]
  by_cases h : b = Proc.devRef .tc main_v96
  · subst h
    rw [Function.update_self]
    exact Pipeline.afterRegion_of_not_arr (dat1 (VC m c) c) (VC m c) (b := main_v96) (by decide)
  · rw [Function.update_of_ne h, Function.update_of_ne hb]

/-! ## The launches as segments -/

/-- The launches' contents. -/
def pdats (p : Fin 2) (c : Dev nD) : Dat τ (Elt F) Unit ℕ (Pipeline.UD sig nD τ) ℕ (cfgs p) c :=
  match p with
  | 0 => dat0 (V1 m c) c
  | 1 => dat1 (VC m c) c

/-- The pipelines' waits happen at one level, on the TensorCore's cells. -/
def L (g : GSem nD τ sig) : Finset Unit := if g.1.2 = .tc then {()} else ∅
abbrev lv : GSem nD τ sig → Unit → ℕ := fun _ _ => 0

theorem levels (p : Fin 2) : Pipeline.LevelCut (pcfgs (F := F)) adm () L lv p (fun _ => (0 : CellTallies nD τ sig Unit)) fun _ => 0 where
  hι _ _ _ := by unfold L; rw [if_pos rfl]; exact Finset.mem_singleton_self ()
  hιb _ _ _ := le_refl _
  hD _ _ _ h := absurd h (lt_irrefl _)

/-- What rides beside the buffers: what the core owes (nothing) and its generator's register. -/
abbrev E (_ : Fin 3) (c : Dev nD) : sProp 𝕄 :=
  iprop((∃ W, owes (c : Thread nD τ) (0 : CellTallies nD τ sig Unit) W) ∗ (∃ r, prngReg c r) ∗ emp)

set_option backward.isDefEq.respectTransparency.types false in
/-- The preparing launch. -/
def seg0 : RegionSeg (pcfgs (F := F)) adm (pdats m) () defs₀ Variants.none L lv 0 :=
  RegionSeg.ofHeldIn (pcfgs (F := F)) adm (pdats m) () defs₀ Variants.none L lv 0 (fun _ => 0) (Pipeline.ucRefs τ sig)
    (fun c => iprop(∃ r, prngReg c r)) (fun c => iprop(∃ r, prngReg c r)) launch0.toP rfl
    (fun c => (body0 (V1 m c) c).loose) (fun _ _ => rfl) (fun _ => rfl) (fun c => (dat0 (V1 m c) c).share_full fun _ => rfl)
    (fun _ => .rfl) (fun _ => .rfl) (fun _ => 0) (levels 0) (fun _ => iprop(emp)) (V1 m) (fun _ _ => rfl)

/-- The buffers beside the convolution's arrays. -/
abbrev others : Finset (DevRef τ sig) := Pipeline.ucRefs τ sig \ Pipeline.arrRefs spec1

theorem img_mem : Pipeline.hbmRefs (τ := τ) {main_v96} ⊆ others := fun b hb => by
  obtain ⟨r, hr, rfl⟩ := Finset.mem_map.mp hb
  rw [Finset.mem_singleton.mp hr]
  refine Finset.mem_sdiff.mpr ⟨Finset.mem_filter.mpr ⟨StableHlo.devRef_mem_tcRefs _, by decide⟩, fun h => ?_⟩
  obtain ⟨r', hr', e⟩ := Finset.mem_map.mp h
  obtain ⟨w, -, rfl⟩ := Finset.mem_image.mp hr'
  have := Proc.devRef_injective _ e
  revert this w
  decide

theorem arrs1_mem : Pipeline.arrRefs (τ := τ) spec1 ⊆ Pipeline.ucRefs τ sig := fun b hb => by
  obtain ⟨r, hr, rfl⟩ := Finset.mem_map.mp hb
  obtain ⟨w, -, rfl⟩ := Finset.mem_image.mp hr
  refine Finset.mem_filter.mpr ⟨StableHlo.devRef_mem_tcRefs _, ?_⟩
  revert w
  decide

theorem arrs0_mem : Pipeline.arrRefs (τ := τ) spec0 ⊆ Pipeline.ucRefs τ sig := fun b hb => by
  obtain ⟨r, hr, rfl⟩ := Finset.mem_map.mp hb
  obtain ⟨w, -, rfl⟩ := Finset.mem_image.mp hr
  refine Finset.mem_filter.mpr ⟨StableHlo.devRef_mem_tcRefs _, ?_⟩
  revert w
  decide

theorem img_held (c : Dev nD) : (bigSep {main_v96} fun b => ((c.tc : Thread nD τ).loc b) ↦{fullShare} VC m c (Proc.devRef .tc b) : sProp 𝕄)
    = iprop(Conv.imgLoc c ↦{fullShare} VC m c main_v96) := BI.bigSep_singleton

theorem exit1 (c : Dev nD) (w : Fin 2) :
    (dat1 (VC m c) c).arrAt w 8 = V12 m (outs m) c (Proc.devRef .tc (Pipeline.arrRef spec1 w)) := by
  fin_cases w
  · refine ((dat1 (VC m c) c).arrAt_in 0 rfl _).trans ?_
    exact (V12_off m c (Proc.devRef .tc main_v95) (by decide)).symm
  · exact (V12_result m c).symm

set_option backward.isDefEq.respectTransparency.types false in
/-- The convolution's launch. -/
def seg1 : RegionSeg (pcfgs (F := F)) adm (pdats m) () defs₀ Variants.none L lv 1 :=
  RegionSeg.ofHeldDH (pcfgs (F := F)) adm (pdats m) () defs₀ Variants.none L lv 1 (fun _ => 0) () osem1 ownSemFacts1
    {main_v96} others img_mem launch1.toP rfl
    (fun c => (body1 (VC m c) c).loose) (fun _ _ => rfl) (fun _ => rfl) (fun c => (dat1 (VC m c) c).share_full fun _ => rfl)
    (fun c => BIBase.Entails.trans (by iintro -; iempintro) (Transfers.MayWaits.zero (c : Thread nD τ) ()))
    (VC m) (V12 m (outs m))
    (fun c => by
      rw [img_held]
      refine BIBase.Entails.trans ?_ (enter1 (VC m c) c)
      iintro ⟨H1, H2, H3, H4, -⟩
      isplitl [H1]; · iexact H1
      isplitl [H2]; · iexact H2
      isplitl [H3]; · iexact H3
      iexact H4)
    (fun c => by
      rw [img_held]
      exact leave1 (VC m c) c)
    (fun _ => 0) (levels 1) (fun _ => iprop(emp)) (fun _ _ => rfl) (fun c w => exit1 m c w)

set_option backward.isDefEq.respectTransparency.types false in
theorem seg0_post (c : Dev nD) : (seg0 m).post c ⊢ iprop(StableHlo.held (c : Thread nD τ) (Pipeline.ucRefs τ sig) (V2 m (outs m) c) ∗ E 1 c) := by
  have h := RegionSeg.ofHeldIn_post (pcs := pcfgs (F := F)) (a := adm) (pdats := pdats m) (ι := ()) (defs₀ := defs₀) (𝒱₀ := Variants.none) (L := L) (lv := lv)
    (p := 0) (D := fun _ => 0) (S := Pipeline.ucRefs τ sig) arrs0_mem
    (X := fun c => iprop(∃ r, prngReg c r)) (Y := fun c => iprop(∃ r, prngReg c r)) (kit := launch0.toP) (hK := rfl)
    (hbody := fun c => (body0 (V1 m c) c).loose) (howed := fun _ _ => rfl) (hrec := fun _ => rfl)
    (hshare := fun c => (dat0 (V1 m c) c).share_full fun _ => rfl) (hin := fun _ => .rfl) (hout := fun _ => .rfl) (b := fun _ => 0) (hcut := levels 0)
    (R := fun _ => iprop(emp)) (W := V1 m) (hW := fun _ _ => rfl) c
  rw [show Pipeline.afterRegion (pdats m 0 c) (V1 m c) = V2 m (outs m) c from after_prep m c] at h
  exact h

set_option backward.isDefEq.respectTransparency.types false in
theorem seg0_pre (c : Dev nD) : iprop(StableHlo.held (c : Thread nD τ) (Pipeline.ucRefs τ sig) (V1 m c) ∗ E 0 c) ⊢ (seg0 m).pre c :=
  RegionSeg.ofHeldIn_pre (pcs := pcfgs (F := F)) (a := adm) (pdats := pdats m) (ι := ()) (defs₀ := defs₀) (𝒱₀ := Variants.none) (L := L) (lv := lv)
    (p := 0) (D := fun _ => 0) (S := Pipeline.ucRefs τ sig) arrs0_mem
    (X := fun c => iprop(∃ r, prngReg c r)) (Y := fun c => iprop(∃ r, prngReg c r)) (kit := launch0.toP) (hK := rfl)
    (hbody := fun c => (body0 (V1 m c) c).loose) (howed := fun _ _ => rfl) (hrec := fun _ => rfl)
    (hshare := fun c => (dat0 (V1 m c) c).share_full fun _ => rfl) (hin := fun _ => .rfl) (hout := fun _ => .rfl) (b := fun _ => 0) (hcut := levels 0)
    (R := fun _ => iprop(emp)) (W := V1 m) (hW := fun _ _ => rfl) c

theorem seg1_pre (c : Dev nD) : iprop(StableHlo.held (c : Thread nD τ) (Pipeline.ucRefs τ sig) (V11 m (outs m) c) ∗ E 1 c) ⊢ (seg1 m).pre c := by
  show _ ⊢ iprop(StableHlo.held (c.tc : Thread nD τ) (Pipeline.arrRefs spec1) (VC m c) ∗ (∃ r, prngReg c r)
      ∗ (StableHlo.held (c.tc : Thread nD τ) others (VC m c) ∗ emp) ∗ ∃ Wd, owes (c : Thread nD τ) 0 Wd)
  rw [V11_outs, StableHlo.held_sub_split (c.tc : Thread nD τ) arrs1_mem (VC m c)]
  iintro ⟨⟨Ha, Hr⟩, HO, HP, -⟩
  isplitl [Ha]; · iexact Ha
  isplitl [HP]; · iexact HP
  isplitl [Hr]
  · isplitl [Hr]; · iexact Hr
    iempintro
  iexact HO

theorem seg1_post (c : Dev nD) : (seg1 m).post c ⊢ iprop(StableHlo.held (c : Thread nD τ) (Pipeline.ucRefs τ sig) (V12 m (outs m) c) ∗ E 2 c) := by
  show iprop(StableHlo.held (c.tc : Thread nD τ) (Pipeline.arrRefs spec1) (V12 m (outs m) c) ∗ (∃ r, prngReg c r)
      ∗ (StableHlo.held (c.tc : Thread nD τ) others (VC m c) ∗ emp) ∗ ∃ Wd, owes (c : Thread nD τ) 0 Wd) ⊢ _
  rw [StableHlo.held_sub_split (c.tc : Thread nD τ) arrs1_mem (V12 m (outs m) c),
    StableHlo.held_congr (c.tc : Thread nD τ) (S := Pipeline.ucRefs τ sig \ Pipeline.arrRefs spec1) (V := V12 m (outs m) c) (V' := VC m c) fun b hb =>
      V12_off m c b fun e => (Finset.mem_sdiff.mp hb).2 (e ▸ Finset.mem_map.mpr ⟨main_v97, Finset.mem_image.mpr ⟨1, Finset.mem_univ _, rfl⟩, rfl⟩)]
  iintro ⟨Ha, HP, ⟨Hr, -⟩, HO⟩
  isplitl [Ha Hr]
  · isplitl [Ha]; · iexact Ha
    iexact Hr
  isplitl [HO]; · iexact HO
  isplitl [HP]; · iexact HP
  iempintro

/-- At launch the pipelines' elements; no transfer's counter yet. -/
def u₀ : Pipeline.UD sig nD τ := (initOf (Pipeline.cells cfgs cellOf_inj) (Pipeline.launchToks cfgs cellOf_inj), 1)

set_option backward.isDefEq.respectTransparency.types false in
/-- The whole run: from any memory and zero counters, every execution ends, with every buffer at the contents followed
    through the program and every counter at zero. -/
theorem run_main : θ_run defs (onTc (τ := τ) (main (F := F))) ⟨m, fun _ => 0, ρ⟩ (fun r =>
    (∀ c : Dev nD, ∀ b ∈ Pipeline.ucRefs τ sig, r.2.mem ((c.tc : Thread nD τ).1, b) = V12 m (outs m) c b) ∧ r.2.sem = fun _ => 0) := by
  refine Pipeline.θ_run_regions_kit_dev_sems (pcfgs (F := F)) adm (pdats m) () cellOf_inj embL defs₀ Variants.none L lv m ρ main
    (segs m (outs m) Variants.none L lv E () (pdats m) (seg0 m) (seg1 m))
    (fun c Q => by
      rewrite [main_chain c, Pipeline.Seg.run_eq_chain,
        show (segs m (outs m) Variants.none L lv E () (pdats m) (seg0 m) (seg1 m) c).map Pipeline.Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          Prog.lift (.customCall (Pipeline.entry 1) ()) ] from rfl]
      dsimp (config := { failIfUnchanged := false }) only
      exact .rfl)
    (fun c => by simp only [segs, Pipeline.Seg.pipes_host, Pipeline.Seg.pipes_region, Pipeline.Seg.pipes_nil]; decide)
    (fun _ => 0) (fun g hg => if_neg hg) (fun _ => iprop(emp)) u₀ ?hu
    (T₀ := fun c => iprop(StableHlo.held (c : Thread nD τ) (Pipeline.ucRefs τ sig) (V0 m c) ∗ E 0 c))
    (Tₙ := fun c => StableHlo.held (c : Thread nD τ) (Pipeline.ucRefs τ sig) (V12 m (outs m) c))
    (hch := fun c => ⟨.rfl, seg0_pre m c, seg0_post m c, .rfl, .rfl, .rfl, .rfl, .rfl, .rfl, .rfl, .rfl, seg1_pre m c, ?hlast⟩)
    (hinit := Pipeline.initEach L lv fun c => ?hinit)
    (QY := fun c s => ∀ b ∈ Pipeline.ucRefs τ sig, s.mem ((c.tc : Thread nD τ).1, b) = V12 m (outs m) c b)
    (hfin := fun c s' => ?hfin) (hQ := fun _ h hz => ⟨h, funext fun g => hz g (.inr (regions_no_unscoped g.2))⟩)
  case hu =>
    unfold u₀
    iintro Hu
    ihave H := (ownU_pair _ _) $$ Hu
    icases H with ⟨HP, -⟩
    imodintro
    isplitl [HP]; · iexact HP
    iapply (show (BI.emp : sProp 𝕄) ⊢ bigSep Finset.univ (fun _ : Dev nD => (BI.emp : sProp 𝕄)) from by rw [BI.bigSep_emp_const])
    iempintro
  case hlast =>
    refine (seg1_post m c).trans ?_
    iintro ⟨H, HO, -⟩
    isplitl [H]; · iexact H
    iexact HO
  case hinit =>
    rw [← Pipeline.unscopedBufs_held (Ix := Unit) (Name := ℕ) (U := Pipeline.UD sig nD τ) (Lvl := ℕ) c (V0 m c)]
    iintro ⟨⟨Hh, -, HO, -, HP, -⟩, -⟩
    imodintro
    isplitl [Hh]; · iexact Hh
    isplitl [HO]; · iexists ∅; iexact HO
    isplitl [HP]; · iexists _; iexact HP
    iempintro
  case hfin =>
    unfold StableHlo.held
    iintro ⟨Hh, HSI⟩
    ihave Hr := (pointsTo_read_all (Pipeline.ucRefs τ sig) (fun b => ((c : Thread nD τ).1, b)) (V12 m (outs m) c) s') $$ [Hh HSI]
    · isplitl [Hh] <;> iassumption
    icases Hr with ⟨%h, HSI⟩
    imodintro
    isplitr
    · ipureintro; exact h
    · iexact HSI

/-- A buffer of the program, read off at the end of the run. -/
theorem read_end {c : Dev nD} {s : MemSt nD τ sig (Elt F)}
    (h : ∀ b ∈ Pipeline.ucRefs τ sig, s.mem ((c.tc : Thread nD τ).1, b) = V12 m (outs m) c b) (r : Ref sig .tc)
    (hr : (Proc.devRef .tc r : DevRef τ sig).isScoped = false) : s.mem ((c.tc : Thread nD τ).loc r) = V12 m (outs m) c r :=
  h (Proc.devRef .tc r) (Finset.mem_filter.mpr ⟨StableHlo.devRef_mem_tcRefs r, by rw [hr]; exact Bool.false_ne_true⟩)

/-- The arguments end as launched. -/
theorem args_end {c : Dev nD} {r : PUnit × MemSt nD τ sig (Elt F)}
    (h : ∀ (b : Ref sig .tc), (Proc.devRef .tc b : DevRef τ sig).isScoped = false → r.2.mem ((c.tc : Thread nD τ).loc b) = V12 m (outs m) c b) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨(h main_arg0 (by decide)).trans (V12_main_arg0 m (outs m) c),
    (h main_arg1 (by decide)).trans (V12_main_arg1 m (outs m) c),
    (h main_arg2 (by decide)).trans (V12_main_arg2 m (outs m) c),
    (h main_arg3 (by decide)).trans (V12_main_arg3 m (outs m) c),
    (h main_arg4 (by decide)).trans (V12_main_arg4 m (outs m) c),
    (h main_arg5 (by decide)).trans (V12_main_arg5 m (outs m) c),
    (h main_arg6 (by decide)).trans (V12_main_arg6 m (outs m) c)⟩

/-- Every execution ends, leaves the arguments as launched and every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_mono (run_main m ρ) fun r h => ⟨fun c => args_end m (read_end m (h.1 c)), h.2⟩

end Cert.KernelIdeal.Run

end
-- ==== Proof.HostRead.lean ====
/-
  What the program's host operations compute between the two kernel launches, as functions of the pooled sums, the
  arguments and the literals: the gate's four results, and the taps and the strips the convolution reads.
-/
module

public import proofs.«01_k».proof.Proof.Run
public import Idealize.ShloMosaic.Lib.StableHlo.RunRead

@[expose] public section

set_option maxRecDepth 16384

noncomputable section

namespace Cert.KernelIdeal.HostRead

open Cert.KernelIdeal Cert.KernelIdeal.Gen Idealize.ShloMosaic Idealize.ShloMosaic.TcCoe Idealize.SL.Sem Idealize.ShloMosaic.StableHlo

variable {F : FTy → Type} [FloatOps F]

/-! ## The gate -/

/-- The means of the channels, from their sums. -/
def mean (P : S2x96.Idx → Elt F .f32) : S2x96.Idx → Elt F .f32 :=
  Host.divf P (broadcastInDim S2x96 ![] bcast_S_S2x96 (constant S_ .f32 0x47440000#32))

/-- The gate's scores. -/
def logits (M : S2x96.Idx → Elt F .f32) (G : S96x4.Idx → Elt F .f32) : S2x4.Idx → Elt F .f32 :=
  Host.dotGeneral dot_S2x96_S96x4_S2x4_1_0_0_1_n_n none M G

/-- The greatest score of each image. -/
def topV (L : S2x4.Idx → Elt F .f32) : S2x1.Idx → Elt F .f32 := (Host.topK S2x1 1 (FloatOps.cmpfTotal .gt) L sliceFits_S2x4_S2x1).1

/-- The expert of each image. -/
def topI (L : S2x4.Idx → Elt F .f32) : S2x1.Idx → Elt F .i32 := (Host.topK S2x1 1 (FloatOps.cmpfTotal .gt) L sliceFits_S2x4_S2x1).2

/-- The exponential of the greatest score less the greatest. -/
def expV (V : S2x1.Idx → Elt F .f32) : S2x1.Idx → Elt F .f32 :=
  Host.exp (subf V (broadcastInDim S2x1 ![0] bcast_S2_S2x1_0 (maximumf (broadcastInDim S2 ![] bcast_S_S2 (constant S_ .f32 0xFF800000#32)) (Host.reduce FloatOps.maximumf V (constant S_ .f32 0xFF800000#32) reducesTo_S2x1_S2_d1 h_S_))))

/-- The gate's softmax over the one greatest score. -/
def softV (V : S2x1.Idx → Elt F .f32) : S2x1.Idx → Elt F .f32 :=
  Host.divf (expV V) (broadcastInDim S2x1 ![0] bcast_S2_S2x1_0 (Host.reduceAdd (expV V) (constant S_ .f32 0x00000000#32) reducesTo_S2x1_S2_d1 h_S_))

/-- The rows' numbers. -/
def rowsI : S2x1.Idx → Elt F .i32 := broadcastInDim S2x1 ![0] bcast_S2_S2x1_0 (iotaInDim S2 32 0)

/-- The rows' numbers and the experts', where the weights go. -/
def whereI (I : S2x1.Idx → Elt F .i32) : S2x1x2.Idx → Elt F .i32 :=
  concatenate S2x1x2 2 [⟨S2x1x1, broadcastInDim S2x1x1 ![0, 1] bcast_S2x1_S2x1x1_0_1 (select (cmpi .slt (rowsI (F := F)) (broadcastInDim S2x1 ![] bcast_S_S2x1 (constantI S_ 32 0#32))) (addi (rowsI (F := F)) (broadcastInDim S2x1 ![] bcast_S_S2x1 (constantI S_ 32 2#32))) (rowsI (F := F)))⟩, ⟨S2x1x1, broadcastInDim S2x1x1 ![0, 1] bcast_S2x1_S2x1x1_0_1 (select (cmpi .slt I (broadcastInDim S2x1 ![] bcast_S_S2x1 (constantI S_ 32 0#32))) (addi I (broadcastInDim S2x1 ![] bcast_S_S2x1 (constantI S_ 32 4#32))) I)⟩] concatenates_S2x1x1_S2x1x1_S2x1x2_d2

/-- The gate's weights. -/
def weights (L : S2x4.Idx → Elt F .f32) : S2x4.Idx → Elt F .f32 :=
  Host.scatter scatter_S2x4_S2x1x2_S2x1_n_01_01_2 (fun _ b => b) (broadcastInDim S2x4 ![] bcast_S_S2x4 (constant S_ .f32 0x00000000#32)) (whereI (F := F) (topI L)) (softV (topV L))

/-- How many images each expert serves. -/
def served (W : S2x4.Idx → Elt F .f32) : S4.Idx → Elt F .i32 :=
  Host.reduce IntOp.addi (extui 32 (cmpf .ogt W (broadcastInDim S2x4 ![] bcast_S_S2x4 (constant S_ .f32 0x00000000#32))) natLt_1_32) (constantI S_ 32 0#32) reducesTo_S2x4_S4_d0 h_S_

/-- Each expert's importance. -/
def importance (W : S2x4.Idx → Elt F .f32) : S4.Idx → Elt F .f32 := Host.reduceAdd W (constant S_ .f32 0x00000000#32) reducesTo_S2x4_S4_d0 h_S_

/-- The mean importance. -/
def meanImp (J : S4.Idx → Elt F .f32) : S_.Idx → Elt F .f32 :=
  Host.divf (Host.reduceAdd J (constant S_ .f32 0x00000000#32) reducesTo_S4_S_d0 h_S_) (constant S_ .f32 0x40800000#32)

/-- The importances less their mean. -/
def offMean (J : S4.Idx → Elt F .f32) : S4.Idx → Elt F .f32 :=
  subf J (broadcastInDim S4 ![0] bcast_S1_S4_0 (Host.divf (broadcastInDim S1 ![] bcast_S_S1 (Host.reduceAdd J (constant S_ .f32 0x00000000#32) reducesTo_S4_S_d0 h_S_)) (broadcastInDim S1 ![] bcast_S_S1 (constant S_ .f32 0x40800000#32))))

/-- The number of experts the variance divides by. -/
def count : S_.Idx → Elt F .f32 := subf (constant S_ .f32 0x40800000#32) (sitofp .f32 (constantI S_ 32 0#32))

/-- The importances' variance. -/
def variance (J : S4.Idx → Elt F .f32) : S_.Idx → Elt F .f32 :=
  select (cmpf .ogt (count (F := F)) (constant S_ .f32 0x00000000#32)) (Host.divf (Host.reduceAdd (mulf (offMean J) (offMean J)) (constant S_ .f32 0x00000000#32) reducesTo_S4_S_d0 h_S_) (count (F := F))) (id (constant S_ .f32 0x7FC00000#32))

/-- The balancing loss. -/
def loss (J : S4.Idx → Elt F .f32) : S_.Idx → Elt F .f32 :=
  Host.divf (variance J) (addf (mulf (meanImp J) (meanImp J)) (constant S_ .f32 0x2EDBE6FF#32))

/-! ## The taps -/

/-- Zero, as the paddings have it. -/
def padZero : S_.Idx → Elt F .f32 := sitofp .f32 (constantI S_ 32 0#32)

/-- A 3x3 kernel in the middle of a 5x5 one. -/
def embed (w : S96x96x3x3.Idx → Elt F .f32) : S96x96x5x5.Idx → Elt F .f32 :=
  pad S96x96x5x5 ![0, 0, 1, 1] ![0, 0, 1, 1] ![0, 0, 0, 0] w padZero pads_S96x96x3x3_S96x96x5x5_000_000_110_110 h_S_

/-- The central-difference kernel: the middle tap less 0.7 of the taps' sum. -/
def cdTaps (w : S96x96x3x3.Idx → Elt F .f32) : S96x96x3x3.Idx → Elt F .f32 :=
  Host.scatter scatter_S96x96x3x3_S2_S96x96_01_23_23_0 FloatOps.addf w
    (concatenate S2 0 [⟨S1, broadcastInDim S1 ![] bcast_S_S1 (constantI S_ 32 1#32)⟩, ⟨S1, broadcastInDim S1 ![] bcast_S_S1 (constantI S_ 32 1#32)⟩] concatenates_S1_S1_S2_d0)
    (mulf (broadcastInDim S96x96 ![] bcast_S_S96x96 (constant S_ .f32 0xBF333333#32)) (Host.reduceAdd w (constant S_ .f32 0x00000000#32) reducesTo_S96x96x3x3_S96x96_d2_3 h_S_))

/-- The prediction taps over their sum. -/
def ratios (w : S96x96x24.Idx → Elt F .f32) : S96x96x24.Idx → Elt F .f32 :=
  Host.divf w (broadcastInDim S96x96x24 ![0, 1, 2] bcast_S96x96x1_S96x96x24_0_1_2 (broadcastInDim S96x96x1 ![0, 1] bcast_S96x96_S96x96x1_0_1 (Host.reduceAdd w (constant S_ .f32 0x00000000#32) reducesTo_S96x96x24_S96x96_d2 h_S_)))

/-- The prediction-error kernel: the ratios round a middle of −1. -/
def bayarTaps (w : S96x96x24.Idx → Elt F .f32) : S96x96x5x5.Idx → Elt F .f32 :=
  shapeCast S96x96x5x5 (concatenate S96x96x25 2 [⟨S96x96x12, extractStridedSlice S96x96x12 ![0, 0, 0] (ratios w) slices_S96x96x24_S96x96x12_0_0_0⟩, ⟨S96x96x1, Host.negf (broadcastInDim S96x96x1 ![] bcast_S_S96x96x1 (constant S_ .f32 0x3F800000#32))⟩, ⟨S96x96x12, extractStridedSlice S96x96x12 ![0, 0, 12] (ratios w) slices_S96x96x24_S96x96x12_0_0_12⟩] concatenates_S96x96x12_S96x96x1_S96x96x12_S96x96x25_d2) shapeCasts_S96x96x25_S96x96x5x5

/-- The three noise filters. -/
def filters : S3x5x5.Idx → Elt F .f32 := fun i => FloatOps.ofBits .f32 (lit0 (S3x5x5.rowMajor i))

/-- The Laplacian. -/
def laplace : S3x3.Idx → Elt F .f32 := fun i => FloatOps.ofBits .f32 (lit1 (S3x3.rowMajor i))

/-- The noise-residual kernel: the filters weighted and added up. -/
def srmTaps (w : S96x288x1x1.Idx → Elt F .f32) : S96x96x5x5.Idx → Elt F .f32 :=
  Host.reduceAdd (mulf (broadcastInDim S96x96x3x5x5 ![0, 1, 2, 3, 4] bcast_S96x96x3x1x1_S96x96x3x5x5_0_1_2_3_4 (broadcastInDim S96x96x3x1x1 ![0, 1, 2] bcast_S96x96x3_S96x96x3x1x1_0_1_2 (shapeCast S96x96x3 (shapeCast S96x288 w shapeCasts_S96x288x1x1_S96x288) shapeCasts_S96x288_S96x96x3)))
      (broadcastInDim S96x96x3x5x5 ![0, 1, 2, 3, 4] bcast_S1x1x3x5x5_S96x96x3x5x5_0_1_2_3_4 (broadcastInDim S1x1x3x5x5 ![2, 3, 4] bcast_S3x5x5_S1x1x3x5x5_2_3_4 (filters (F := F)))))
    (constant S_ .f32 0x00000000#32) reducesTo_S96x96x3x5x5_S96x96x5x5_d2 h_S_

/-- The high-frequency kernel: the Laplacian under each pair's weight. -/
def hfTaps (w : S96x96x1x1.Idx → Elt F .f32) : S96x96x3x3.Idx → Elt F .f32 :=
  mulf (broadcastInDim S96x96x3x3 ![0, 1, 2, 3] bcast_S96x96x1x1_S96x96x3x3_0_1_2_3 (broadcastInDim S96x96x1x1 ![0, 1] bcast_S96x96_S96x96x1x1_0_1 (shapeCast S96x96 w shapeCasts_S96x96x1x1_S96x96)))
    (broadcastInDim S96x96x3x3 ![0, 1, 2, 3] bcast_S1x1x3x3_S96x96x3x3_0_1_2_3 (broadcastInDim S1x1x3x3 ![2, 3] bcast_S3x3_S1x1x3x3_2_3 (laplace (F := F))))

/-- The four kernels, stacked. -/
def stack (e0 e1 e2 e3 : S96x96x5x5.Idx → Elt F .f32) : S4x96x96x5x5.Idx → Elt F .f32 :=
  concatenate S4x96x96x5x5 0 [⟨S1x96x96x5x5, broadcastInDim S1x96x96x5x5 ![1, 2, 3, 4] bcast_S96x96x5x5_S1x96x96x5x5_1_2_3_4 e0⟩, ⟨S1x96x96x5x5, broadcastInDim S1x96x96x5x5 ![1, 2, 3, 4] bcast_S96x96x5x5_S1x96x96x5x5_1_2_3_4 e1⟩, ⟨S1x96x96x5x5, broadcastInDim S1x96x96x5x5 ![1, 2, 3, 4] bcast_S96x96x5x5_S1x96x96x5x5_1_2_3_4 e2⟩, ⟨S1x96x96x5x5, broadcastInDim S1x96x96x5x5 ![1, 2, 3, 4] bcast_S96x96x5x5_S1x96x96x5x5_1_2_3_4 e3⟩] concatenates_S1x96x96x5x5_S1x96x96x5x5_S1x96x96x5x5_S1x96x96x5x5_S4x96x96x5x5_d0

/-- The kernels of the images' experts, row by row. -/
def taps (I : S2x1.Idx → Elt F .i32) (e : S4x96x96x5x5.Idx → Elt F .f32) : S2x5x96x480.Idx → Elt F .bf16 :=
  truncf .bf16 (Host.gather gather_S4x5x96x480_S2x1_S2x5x96x480_123_0_n_n_0_1_1596480
    (shapeCast S4x5x96x480 (transpose S4x5x96x5x96 [0, 3, 1, 4, 2] e transposes_S4x96x96x5x5_S4x5x96x5x96_0_3_1_4_2) shapeCasts_S4x5x96x5x96_S4x5x96x480)
    (broadcastInDim S2x1 ![0] bcast_S2_S2x1_0 (select (cmpi .slt (shapeCast S2 I shapeCasts_S2x1_S2) (broadcastInDim S2 ![] bcast_S_S2 (constantI S_ 32 0#32))) (addi (shapeCast S2 I shapeCasts_S2x1_S2) (broadcastInDim S2 ![] bcast_S_S2 (constantI S_ 32 4#32))) (shapeCast S2 I shapeCasts_S2x1_S2)))) bitsLt_bf16_f32

/-! ## The buffers, read -/

section

variable (m : (ℓ : Loc nD τ sig) → Buf (Elt F) ℓ) (outs : Outs (F := F)) (c : Dev nD)

/-- The gate's scores, from the pool the preparing launch leaves. -/
def scores : S2x4.Idx → Elt F .f32 :=
  logits (mean (shapeCast S2x96 (V2 m outs c main_v0_0) shapeCasts_S2x1x96_S2x96)) (V2 m outs c main_arg1)

/-- The chosen experts are those of the scores. -/
theorem V3_indices : V3 m outs c main_indices = topI (scores m outs c) := by
  unfold V3; after_results_simp; rfl
/-- The gate weights are those of the scores. -/
theorem V3_weights : V3 m outs c main_v30 = weights (scores m outs c) := by
  unfold V3; after_results; rfl
/-- The counts of examples are those of the weights. -/
theorem V3_served : V3 m outs c main_v34 = served (weights (scores m outs c)) := by
  unfold V3; after_results; rfl
/-- The expert importance is that of the weights. -/
theorem V3_importance : V3 m outs c main_v35 = importance (weights (scores m outs c)) := by
  unfold V3; after_results; rfl
/-- The auxiliary loss is that of the importance. -/
theorem V5_loss : V5 m outs c main_v41 = loss (importance (weights (scores m outs c))) := by
  unfold V5; after_results_simp; rfl

/-! ### The taps, list by list -/

/-- This stretch of host code computes the central-difference taps. -/
theorem at6 (W : Valuation τ sig (Elt F)) : after hostOps1_4 W main_v49 = cdTaps (W main_arg2) := by
  after_results_simp; rfl
/-- This stretch of host code embeds the shared kernel. -/
theorem at4 (W : Valuation τ sig (Elt F)) (h : W main_c_16 = constantI S_ 32 0#32) : after hostOps1_3 W main_v42 = embed (W main_arg6) := by
  after_results_simp; rw [h]; rfl
/-- This stretch of host code embeds the central-difference taps. -/
theorem at5 (W : Valuation τ sig (Elt F)) (h : W main_c_21 = constantI S_ 32 0#32) : after hostOps1_5 W main_v50 = embed (W main_v49) := by
  after_results_simp; rw [h]; rfl
/-- This stretch of host code adds the shared and the central-difference taps. -/
theorem at7_0 (W : Valuation τ sig (Elt F)) : after hostOps1_6 W main_v51 = addf (W main_v42) (W main_v50) := by
  after_results_simp
/-- This stretch of host code adds the shared and the Bayar taps. -/
theorem at7_1 (W : Valuation τ sig (Elt F)) : after hostOps1_6 W main_v62 = addf (W main_v42) (bayarTaps (W main_arg3)) := by
  after_results; rfl
/-- This stretch of host code adds the shared and the merged SRM taps. -/
theorem at7_2 (W : Valuation τ sig (Elt F)) (h : W main_cst = filters) : after hostOps1_6 W main_v71 = addf (W main_v42) (srmTaps (W main_arg4)) := by
  after_results_simp; rw [h]; rfl
/-- This stretch of host code computes the merged Laplacian taps. -/
theorem at7_3 (W : Valuation τ sig (Elt F)) (h : W main_cst_0 = laplace) : after hostOps1_6 W main_v77 = hfTaps (W main_arg5) := by
  after_results_simp; rw [h]; rfl
/-- This stretch of host code embeds the Laplacian taps. -/
theorem at8 (W : Valuation τ sig (Elt F)) (h : W main_c_25 = constantI S_ 32 0#32) : after hostOps1_7 W main_v78 = embed (W main_v77) := by
  after_results_simp; rw [h]; rfl
/-- This stretch of host code lays out the four kernels and selects one for each image. -/
theorem at9 (W : Valuation τ sig (Elt F)) : after hostOps1_8 W main_v95 = taps (W main_indices) (stack (W main_v51) (W main_v62) (W main_v71) (addf (W main_v42) (W main_v78))) := by
  after_results; rfl
/-- This stretch of host code flattens the lengthened image. -/
theorem at9_strips (W : Valuation τ sig (Elt F)) : after hostOps1_8 W main_v96 = shapeCast S2x96x57344 (W main_v0_1) shapeCasts_S2x96x224x256_S2x96x57344 := by
  after_results_simp; rfl

/-- The padding word of the shared kernel is 0. -/
theorem word4 (W : Valuation τ sig (Elt F)) : after hostOps1_2 W main_c_16 = constantI S_ 32 0#32 := by after_results_simp
/-- The padding word of the central-difference taps is 0. -/
theorem word5 (W : Valuation τ sig (Elt F)) : after hostOps1_4 W main_c_21 = constantI S_ 32 0#32 := by after_results_simp
/-- The padding word of the Laplacian taps is 0. -/
theorem word8 (W : Valuation τ sig (Elt F)) : after hostOps1_6 W main_c_25 = constantI S_ 32 0#32 := by after_results_simp
/-- The first constant is the array of the three fixed filters. -/
theorem filters0 (W : Valuation τ sig (Elt F)) : after hostOps0 W main_cst = filters := by after_results_simp; rfl
/-- The second constant is the fixed Laplacian. -/
theorem laplace0 (W : Valuation τ sig (Elt F)) : after hostOps0 W main_cst_0 = laplace := by after_results_simp; rfl

/-- The gate weights are still the argument after the preparing call. -/
theorem V2_arg1 : V2 m outs c main_arg1 = m ((c.tc : Thread nD τ).loc main_arg1) := by
  simp only [V2_of m outs c main_arg1 (by decide), V1_of m c main_arg1 (by decide)]
/-- The central-difference kernels are still the argument when they are read. -/
theorem V6_arg2 : V6 m outs c main_arg2 = m ((c.tc : Thread nD τ).loc main_arg2) := by
  simp only [V6_of m outs c main_arg2 (by decide), V5_of m outs c main_arg2 (by decide), V4_of m outs c main_arg2 (by decide), V3_of m outs c main_arg2 (by decide), V2_of m outs c main_arg2 (by decide), V1_of m c main_arg2 (by decide)]
/-- The shared kernels are still the argument when they are read. -/
theorem V5_arg6 : V5 m outs c main_arg6 = m ((c.tc : Thread nD τ).loc main_arg6) := by
  simp only [V5_of m outs c main_arg6 (by decide), V4_of m outs c main_arg6 (by decide), V3_of m outs c main_arg6 (by decide), V2_of m outs c main_arg6 (by decide), V1_of m c main_arg6 (by decide)]
/-- The Bayar parameters are still the argument when they are read. -/
theorem V8_arg3 : V8 m outs c main_arg3 = m ((c.tc : Thread nD τ).loc main_arg3) := by
  simp only [V8_of m outs c main_arg3 (by decide), V7_of m outs c main_arg3 (by decide), V6_of m outs c main_arg3 (by decide), V5_of m outs c main_arg3 (by decide), V4_of m outs c main_arg3 (by decide), V3_of m outs c main_arg3 (by decide), V2_of m outs c main_arg3 (by decide), V1_of m c main_arg3 (by decide)]
/-- The SRM weights are still the argument when they are read. -/
theorem V8_arg4 : V8 m outs c main_arg4 = m ((c.tc : Thread nD τ).loc main_arg4) := by
  simp only [V8_of m outs c main_arg4 (by decide), V7_of m outs c main_arg4 (by decide), V6_of m outs c main_arg4 (by decide), V5_of m outs c main_arg4 (by decide), V4_of m outs c main_arg4 (by decide), V3_of m outs c main_arg4 (by decide), V2_of m outs c main_arg4 (by decide), V1_of m c main_arg4 (by decide)]
/-- The Laplacian weights are still the argument when they are read. -/
theorem V8_arg5 : V8 m outs c main_arg5 = m ((c.tc : Thread nD τ).loc main_arg5) := by
  simp only [V8_of m outs c main_arg5 (by decide), V7_of m outs c main_arg5 (by decide), V6_of m outs c main_arg5 (by decide), V5_of m outs c main_arg5 (by decide), V4_of m outs c main_arg5 (by decide), V3_of m outs c main_arg5 (by decide), V2_of m outs c main_arg5 (by decide), V1_of m c main_arg5 (by decide)]

/-- The shared kernel, in the middle of the taps. -/
abbrev sharedTaps : S96x96x5x5.Idx → Elt F .f32 := embed (m ((c.tc : Thread nD τ).loc main_arg6))

/-- The embedded shared kernel, as it stands when the experts are added. -/
theorem V6_shared : V6 m outs c main_v42 = sharedTaps m c := by
  rw [show V6 m outs c main_v42 = _ from at4 (V5 m outs c) (word4 _), V5_arg6]
/-- The kernel of the first expert, with the shared one added. -/
theorem V9_central : V9 m outs c main_v51 = addf (sharedTaps m c) (embed (cdTaps (m ((c.tc : Thread nD τ).loc main_arg2)))) := by
  rw [show V9 m outs c main_v51 = _ from at7_0 (V8 m outs c), show V8 m outs c main_v50 = _ from at5 (V7 m outs c) (word5 _),
    show V7 m outs c main_v49 = _ from at6 (V6 m outs c), V6_arg2, V8_of m outs c main_v42 (by decide), V7_of m outs c main_v42 (by decide), V6_shared]
/-- The kernel of the second expert, with the shared one added. -/
theorem V9_bayar : V9 m outs c main_v62 = addf (sharedTaps m c) (bayarTaps (m ((c.tc : Thread nD τ).loc main_arg3))) := by
  rw [show V9 m outs c main_v62 = _ from at7_1 (V8 m outs c), V8_arg3, V8_of m outs c main_v42 (by decide), V7_of m outs c main_v42 (by decide), V6_shared]
/-- The kernel of the third expert, with the shared one added. -/
theorem V9_srm : V9 m outs c main_v71 = addf (sharedTaps m c) (srmTaps (m ((c.tc : Thread nD τ).loc main_arg4))) := by
  rw [show V9 m outs c main_v71 = _ from at7_2 (V8 m outs c) (by rw [V8_of m outs c main_cst (by decide), V7_of m outs c main_cst (by decide), V6_of m outs c main_cst (by decide), V5_of m outs c main_cst (by decide), V4_of m outs c main_cst (by decide), V3_of m outs c main_cst (by decide), V2_of m outs c main_cst (by decide)]; exact filters0 _),
    V8_arg4, V8_of m outs c main_v42 (by decide), V7_of m outs c main_v42 (by decide), V6_shared]
/-- The embedded kernel of the fourth expert. -/
theorem V10_high : V10 m outs c main_v78 = embed (hfTaps (m ((c.tc : Thread nD τ).loc main_arg5))) := by
  rw [show V10 m outs c main_v78 = _ from at8 (V9 m outs c) (word8 _), show V9 m outs c main_v77 = _ from at7_3 (V8 m outs c) (by rw [V8_of m outs c main_cst_0 (by decide), V7_of m outs c main_cst_0 (by decide), V6_of m outs c main_cst_0 (by decide), V5_of m outs c main_cst_0 (by decide), V4_of m outs c main_cst_0 (by decide), V3_of m outs c main_cst_0 (by decide), V2_of m outs c main_cst_0 (by decide)]; exact laplace0 _), V8_arg5]

/-- The taps the convolution reads. -/
theorem V11_taps : V11 m outs c main_v95 = taps (topI (scores m outs c)) (stack
    (addf (sharedTaps m c) (embed (cdTaps (m ((c.tc : Thread nD τ).loc main_arg2)))))
    (addf (sharedTaps m c) (bayarTaps (m ((c.tc : Thread nD τ).loc main_arg3))))
    (addf (sharedTaps m c) (srmTaps (m ((c.tc : Thread nD τ).loc main_arg4))))
    (addf (sharedTaps m c) (embed (hfTaps (m ((c.tc : Thread nD τ).loc main_arg5)))))) := by
  rw [show V11 m outs c main_v95 = _ from at9 (V10 m outs c), V10_high, V10_of m outs c main_indices (by decide), V9_of m outs c main_indices (by decide), V8_of m outs c main_indices (by decide), V7_of m outs c main_indices (by decide), V6_of m outs c main_indices (by decide), V5_of m outs c main_indices (by decide), V4_of m outs c main_indices (by decide), V3_indices,
    V10_of m outs c main_v51 (by decide), V9_central, V10_of m outs c main_v62 (by decide), V9_bayar, V10_of m outs c main_v71 (by decide), V9_srm,
    V10_of m outs c main_v42 (by decide), V9_of m outs c main_v42 (by decide), V8_of m outs c main_v42 (by decide), V7_of m outs c main_v42 (by decide), V6_shared]

/-- The strips' buffer, with the rows' columns on one axis. -/
theorem V11_strips : V11 m outs c main_v96 = shapeCast S2x96x57344 (V2 m outs c main_v0_1) shapeCasts_S2x96x224x256_S2x96x57344 := by
  rw [show V11 m outs c main_v96 = _ from at9_strips (V10 m outs c), V10_of m outs c main_v0_1 (by decide), V9_of m outs c main_v0_1 (by decide), V8_of m outs c main_v0_1 (by decide), V7_of m outs c main_v0_1 (by decide), V6_of m outs c main_v0_1 (by decide), V5_of m outs c main_v0_1 (by decide), V4_of m outs c main_v0_1 (by decide), V3_of m outs c main_v0_1 (by decide)]

/-! ### The gate's results, where the run leaves them -/

/-- The gate weights are unchanged at the convolving call. -/
theorem V11_weights : V11 m outs c main_v30 = weights (scores m outs c) := by rw [V11_of m outs c main_v30 (by decide), V10_of m outs c main_v30 (by decide), V9_of m outs c main_v30 (by decide), V8_of m outs c main_v30 (by decide), V7_of m outs c main_v30 (by decide), V6_of m outs c main_v30 (by decide), V5_of m outs c main_v30 (by decide), V4_of m outs c main_v30 (by decide), V3_weights]
/-- The counts of examples are unchanged at the convolving call. -/
theorem V11_served : V11 m outs c main_v34 = served (weights (scores m outs c)) := by rw [V11_of m outs c main_v34 (by decide), V10_of m outs c main_v34 (by decide), V9_of m outs c main_v34 (by decide), V8_of m outs c main_v34 (by decide), V7_of m outs c main_v34 (by decide), V6_of m outs c main_v34 (by decide), V5_of m outs c main_v34 (by decide), V4_of m outs c main_v34 (by decide), V3_served]
/-- The expert importance is unchanged at the convolving call. -/
theorem V11_importance : V11 m outs c main_v35 = importance (weights (scores m outs c)) := by rw [V11_of m outs c main_v35 (by decide), V10_of m outs c main_v35 (by decide), V9_of m outs c main_v35 (by decide), V8_of m outs c main_v35 (by decide), V7_of m outs c main_v35 (by decide), V6_of m outs c main_v35 (by decide), V5_of m outs c main_v35 (by decide), V4_of m outs c main_v35 (by decide), V3_importance]
/-- The auxiliary loss is unchanged at the convolving call. -/
theorem V11_loss : V11 m outs c main_v41 = loss (importance (weights (scores m outs c))) := by rw [V11_of m outs c main_v41 (by decide), V10_of m outs c main_v41 (by decide), V9_of m outs c main_v41 (by decide), V8_of m outs c main_v41 (by decide), V7_of m outs c main_v41 (by decide), V6_of m outs c main_v41 (by decide), V5_loss]

end

end Cert.KernelIdeal.HostRead

end
-- ==== Proof.Arrays.lean ====
/-
  What the two launches leave in their arrays, element by element: the preparing launch's sums of each channel and its
  image with the rows lengthened by zeroes; the convolution's result, as a sum over the taps' rows.
-/
module

public import proofs.«01_k».proof.Proof.HostRead
public import Idealize.ShloMosaic.Lib.Pipeline.ValueKit

@[expose] public section

set_option maxRecDepth 16384

noncomputable section

namespace Cert.KernelIdeal.Arrays

open Cert.KernelIdeal Cert.KernelIdeal.Gen Cert.KernelIdeal.Run Idealize.ShloMosaic Idealize.ShloMosaic.TcCoe Idealize.SL.Sem
open Idealize.ShloMosaic.Pipeline (Dat)

/-- Where the windows' blocks lie, step by step. -/
theorem idx0 : ∀ t : Fin cfg0.N, win0_0.index t = ![t.val / 4, 0, t.val % 4, 0] ∧ win0_1.index t = ![t.val / 4, 0, 0]
    ∧ win0_2.index t = ![t.val / 4, 0, t.val % 4, 0] :=
  (by decide +kernel : ∀ t : Fin grid0.N, _)

/-- The blocks of the convolving call: step `t` works on image `t / 4`, strip `t % 4`. -/
theorem idx1 : ∀ t : Fin cfg1.N, win1_0.index t = ![t.val / 4, 0, 0, 0] ∧ win1_1.index t = ![t.val / 4, 0, t.val % 4, 0] :=
  (by decide +kernel : ∀ t : Fin grid1.N, _)

variable (V : Valuation τ sig (Elt Ideal)) (c : Dev nD)

/-- The image with the rows lengthened by zeroes. -/
def longRows (X : FVec Ideal S2x96x224x224 .f32) : FVec Ideal S2x96x224x256 .bf16 := fun i =>
  if h : ((i 3 : Fin 256) : ℕ) < 224 then X (ix4 (i 0) (i 1) (i 2) ⟨(i 3 : Fin 256), h⟩) else 0

/-- What a step stores of its block, at an element. -/
theorem rows_block (x : FVec Ideal S1x96x56x224 .f32) (u : Fin 1) (a : Fin 96) (b : Fin 56) (d : Fin 256) :
    k0_pay4 (F := Ideal) x (ix4 u a b d) = if h : (d : ℕ) < 224 then x (ix4 0 a b ⟨d, h⟩) else 0 := by
  pointwise [k0_pay4, k0_pay2]
  simp

/-- After a step of the preparing call the row window holds the lengthened rows of the strip. -/
theorem after0_rows (t : Fin cfg0.N) : (dat0 V c).after 2 t = k0_pay4 (imgBlk V t) := rfl

/-- The lengthened strip is, at each of its places, the lengthened image at the place of the whole array. -/
theorem rows_point (t : Fin cfg0.N) (y) (z : S1x96x56x256.Idx) (hz : ∀ a, (z a : ℕ) = y a) :
    k0_pay4 (F := Ideal) (imgBlk V t) z = longRows (V main_arg0) (((cfg0.win 2).blk t).view.emb y) := by
  have h0 := hz 0; have h1 := hz 1; have h2 := hz 2; have h3 := hz 3
  idx_vars z
  rw [rows_block]
  have e : ((((cfg0.win 2).blk t).view.emb y) 3 : ℕ) = z3 := by blk_simp [idx0 t]; exact h3.symm
  unfold longRows
  by_cases h : (z3 : ℕ) < 224
  · rw [dif_pos h, dif_pos (lt_of_eq_of_lt e h)]
    blk_ext [imgBlk, idx0 t]
  · rw [dif_neg h, dif_neg (fun h' => h (lt_of_eq_of_lt e.symm h'))]

/-- At the end of the preparing call the row array is the lengthened image. -/
theorem rows_final : (dat0 V c).arrAt 2 cfg0.N = longRows (V main_arg0) := by
  refine (dat0 V c).arrAt_eq_of_covers 2 _ (by decide +kernel) fun t _ y => ?_
  refine (cast_eq _ _).trans ?_
  rw [after0_rows]
  exact rows_point V t y _ fun _ => rfl

/-- The sums of the image's channels. -/
def channelSums (X : FVec Ideal S2x96x224x224 .f32) : FVec Ideal S2x1x96 .f32 := fun i =>
  ∑ h : Fin 224, ∑ w : Fin 224, X (ix4 (i 0) (i 2) h w)

/-- One step's share of a channel's sum. -/
def share (n : ℕ) (ch : Fin 96) : EReal :=
  if h : n < 8 then ∑ r : Fin 56, ∑ w : Fin 224, (show FVec Ideal S1x96x56x224 .f32 from imgBlk V ⟨n, h⟩) (ix4 0 ch r w) else 0

/-- One step adds to the sum of a channel the sum over the strip, starting again from zero at each image. -/
theorem pool_step (n : ℕ) (x : FVec Ideal S1x96x56x224 .f32) (p : FVec Ideal S1x1x96 .f32) (ch : Fin 96) :
    Prep.poolNext (F := Ideal) n x p (ix3 0 0 ch) = (if n % 4 = 0 then 0 else p (ix3 0 0 ch)) + ∑ r : Fin 56, ∑ w : Fin 224, x (ix4 0 ch r w) := by
  unfold Prep.poolNext
  split <;> pointwise [k0_pay3, k0_pay2, k0_pay1]

/-- The sum of a channel over the strip of step `n` is the share of that step. -/
theorem share_of (n : ℕ) (h : n < 8) (ch : Fin 96) :
    ∑ r : Fin 56, ∑ w : Fin 224, (show FVec Ideal S1x96x56x224 .f32 from imgBlk V ⟨n, h⟩) (ix4 0 ch r w) = share V n ch := by
  unfold share; rw [dif_pos h]

/-- The pool after a step: the shares since the last reset. -/
theorem pool_after (n : ℕ) (h : n < 8) (ch : Fin 96) :
    (show FVec Ideal S1x1x96 .f32 from poolAfter V n h) (ix3 0 0 ch) = ∑ k ∈ Finset.range (n % 4 + 1), share V (n / 4 * 4 + k) ch := by
  induction n with
  | zero =>
    show Prep.poolNext (F := Ideal) 0 _ _ (ix3 0 0 ch) = _
    rw [pool_step, share_of V 0 h ch]; simp
  | succ n ih =>
    show Prep.poolNext (F := Ideal) (n + 1) _ _ (ix3 0 0 ch) = _
    rw [pool_step, share_of V (n + 1) h ch]
    by_cases hn : (n + 1) % 4 = 0
    · rw [if_pos hn, hn, zero_add, Finset.sum_range_one, show (n + 1) / 4 * 4 + 0 = n + 1 by omega]
    · have e := ih (by omega)
      rw [if_neg hn, Finset.sum_range_succ, show (n + 1) % 4 = n % 4 + 1 by omega, show (n + 1) / 4 = n / 4 by omega,
        show n / 4 * 4 + (n % 4 + 1) = n + 1 by omega]
      exact congrArg (· + _) e

/-- The share of a step is the sum over the 56 rows of its strip. -/
theorem share_eq (b : Fin 2) (k : Fin 4) (ch : Fin 96) : share V (b.val * 4 + k.val) ch
    = ∑ r : Fin 56, ∑ w : Fin 224, (show FVec Ideal S2x96x224x224 .f32 from V main_arg0) (ix4 b ch ⟨k.val * 56 + r.val, by omega⟩ w) := by
  rw [← share_of V _ (by omega)]
  refine Finset.sum_congr rfl fun r _ => Finset.sum_congr rfl fun w _ => ?_
  show imgBlk V _ _ = V main_arg0 _
  blk_ext [imgBlk, idx0 ⟨b.val * 4 + k.val, by show _ < 8; omega⟩]

/-- After the last strip of an image the running sums are the sums of its channels. -/
theorem pool_point (t : Fin cfg0.N) (ht : t.val % 4 = 3) (y) (z : S1x1x96.Idx) (hz : ∀ a, (z a : ℕ) = y a) :
    (show FVec Ideal S1x1x96 .f32 from poolAfter V t.val t.isLt) z = channelSums (V main_arg0) (((cfg0.win 1).blk t).view.emb y) := by
  have htl : t.val < 8 := t.isLt
  have h0 := hz 0; have h1 := hz 1; have h2 := hz 2
  idx_vars z
  obtain rfl : z0 = 0 := Subsingleton.elim _ _
  obtain rfl : z1 = 0 := Subsingleton.elim _ _
  refine (pool_after V t.val htl z2).trans ?_
  rw [ht, Finset.sum_range]
  unfold channelSums
  have hb : t.val / 4 < 2 := by omega
  have e0 : ((((cfg0.win 1).blk t).view.emb y) 0 : Fin 2) = (⟨t.val / 4, hb⟩ : Fin 2) := Fin.ext (by blk_simp [idx0 t])
  have e2 : ((((cfg0.win 1).blk t).view.emb y) 2 : Fin 96) = z2 := Fin.ext (by blk_simp [idx0 t]; exact h2.symm)
  rw [e0, e2]
  rw [Fin.sum_univ_tiles 4 56 rfl]
  exact Finset.sum_congr rfl fun k _ => share_eq V ⟨t.val / 4, hb⟩ k z2

/-- After a step of the preparing call the pooling window holds the running sums. -/
theorem after0_pool (t : Fin cfg0.N) : (dat0 V c).after 1 t = poolAfter V t.val t.isLt := rfl

/-- At the end of the preparing call the pooling array holds the sum of every channel. -/
theorem pool_final : (dat0 V c).arrAt 1 cfg0.N = channelSums (V main_arg0) := by
  refine (dat0 V c).arrAt_eq_of_covers 1 _ (by decide +kernel) fun t hf y => ?_
  refine (cast_eq _ _).trans ?_
  rw [after0_pool]
  exact pool_point V t ((flush0_1 t).mp hf) y _ fun _ => rfl

end Cert.KernelIdeal.Arrays

end
-- ==== Proof.ConvValue.lean ====
/-
  The convolution's result array, element by element, as a sum over the taps' rows and the image's channels.
-/
module

public import proofs.«01_k».proof.Proof.Arrays

@[expose] public section

set_option maxRecDepth 16384

noncomputable section

namespace Cert.KernelIdeal.Arrays

open Cert.KernelIdeal Cert.KernelIdeal.Gen Cert.KernelIdeal.Run Idealize.ShloMosaic Idealize.ShloMosaic.TcCoe Idealize.SL.Sem
open Idealize.ShloMosaic.Pipeline (Dat)

/-- The strip's five shifted copies, one under the other. -/
theorem shifts_at (v : FVec Ideal S1x96x15872 .bf16) (k : Fin 480) (p : Fin 15360) :
    k1_pay6 (F := Ideal) v (ix2 k p) = v (ix3 0 ⟨k.val % 96, Nat.mod_lt _ (by decide)⟩ ⟨254 + k.val / 96 + p.val, by omega⟩) := by
  pointwise [k1_pay6]
  split_ifs <;> exact congrArg v ((ix3_inj ..).2 ⟨rfl, Fin.ext (by dsimp only; omega), Fin.ext (by dsimp only; omega)⟩)

/-- One row of taps over the strip. -/
theorem row_sum (v : FVec Ideal S1x96x15872 .bf16) (w : Fin 480 → EReal) (q : Fin 15360) :
    (∑ k : Fin 480, w k * k1_pay6 (F := Ideal) v (ix2 k q))
      = ∑ dx : Fin 5, ∑ ci : Fin 96, w ⟨dx.val * 96 + ci.val, by omega⟩ * v (ix3 0 ci ⟨254 + dx.val + q.val, by omega⟩) := by
  rw [Fin.sum_univ_tiles 5 96 rfl]
  refine Finset.sum_congr rfl fun dx _ => Finset.sum_congr rfl fun ci _ => ?_
  rw [shifts_at]
  refine congrArg _ (congrArg v ((ix3_inj ..).2 ⟨rfl, Fin.ext ?_, Fin.ext ?_⟩)) <;> dsimp only <;> omega

/-- A tap of a row of the taps' block. -/
theorem tap_at (d : FVec Ideal S1x5x96x480 .bf16) (n : ℕ) (hn : n < 5)
    (inb : ∀ a, (![0, n, 0, 0] : Fin 4 → ℕ) a + S1x1x96x480.size a ≤ S1x5x96x480.size a) (o : Fin 96) (k : Fin 480) :
    d ((Rect.unit (s := S1x5x96x480) ![0, n, 0, 0] S1x1x96x480.size inb).emb (ix4 0 0 o k)) = d (ix4 0 ⟨n, hn⟩ o k) := by
  refine congrArg d (funext fun a => Fin.ext ?_)
  fin_cases a
  · show 0 + 1 * 0 = 0; rfl
  · show n + 1 * 0 = n; rfl
  · show 0 + 1 * o.val = o.val; omega
  · show 0 + 1 * k.val = k.val; omega

/-- One row of the taps' block over the strip. -/
theorem tap_row (d : FVec Ideal S1x5x96x480 .bf16) (v : FVec Ideal S1x96x15872 .bf16) (n : ℕ) (hn : n < 5)
    (inb : ∀ a, (![0, n, 0, 0] : Fin 4 → ℕ) a + S1x1x96x480.size a ≤ S1x5x96x480.size a) (o : Fin 96) (r : Fin 56) (x : Fin 224)
    (q : Fin 15360) (hq : q.val = n * 256 + r.val * 256 + x.val) :
    (∑ k : Fin 480, d ((Rect.unit (s := S1x5x96x480) ![0, n, 0, 0] S1x1x96x480.size inb).emb (ix4 0 0 o k)) * k1_pay6 (F := Ideal) v (ix2 k q))
      = ∑ dx : Fin 5, ∑ ci : Fin 96, d (ix4 0 ⟨n, hn⟩ o ⟨dx.val * 96 + ci.val, by omega⟩)
          * v (ix3 0 ci ⟨254 + dx.val + (n * 256 + r.val * 256 + x.val), by omega⟩) := by
  refine (row_sum v (fun k => d ((Rect.unit (s := S1x5x96x480) ![0, n, 0, 0] S1x1x96x480.size inb).emb (ix4 0 0 o k))) q).trans ?_
  refine Finset.sum_congr rfl fun dx _ => Finset.sum_congr rfl fun ci _ => ?_
  refine Ideal.mul_congr (tap_at d n hn inb o _) (congrArg v ((ix3_inj ..).2 ⟨rfl, rfl, Fin.ext ?_⟩))
  dsimp only; omega

/-- One step's block of the result. -/
theorem block_at (d : FVec Ideal S1x5x96x480 .bf16) (v : FVec Ideal S1x96x15872 .bf16) (u : Fin 1) (o : Fin 96) (r : Fin 56) (x : Fin 224) :
    Conv.outBlk (F := Ideal) d v (ix4 u o r x) = ∑ ky : Fin 5, ∑ dx : Fin 5, ∑ ci : Fin 96,
      d (ix4 0 ky o ⟨dx.val * 96 + ci.val, by omega⟩) * v (ix3 0 ci ⟨254 + dx.val + (ky.val * 256 + r.val * 256 + x.val), by omega⟩) := by
  unfold Conv.outBlk
  pointwise [k1_pay1, k1_pay7, k1_pay8, k1_pay9, Conv.tapRow]
  rw [Fin.sum_univ_five]
  refine congrArg₂ (· + ·) (congrArg₂ (· + ·) (congrArg₂ (· + ·) (congrArg₂ (· + ·) ?_ ?_) ?_) ?_) ?_
  · exact tap_row d v 0 (by decide) _ o r x _ (by dsimp only; omega)
  · exact tap_row d v 1 (by decide) _ o r x _ (by dsimp only; omega)
  · exact tap_row d v 2 (by decide) _ o r x _ (by dsimp only; omega)
  · exact tap_row d v 3 (by decide) _ o r x _ (by dsimp only; omega)
  · exact tap_row d v 4 (by decide) _ o r x _ (by dsimp only; omega)

/-- An image with a border of two zeroes, at row `i` and column `j` counted from the border's corner. -/
def bordered (X : FVec Ideal S2x96x224x224 .f32) (b : Fin 2) (ci : Fin 96) (i j : ℕ) : EReal :=
  if h : (2 ≤ i ∧ i < 226) ∧ 2 ≤ j ∧ j < 226 then X (ix4 b ci ⟨i - 2, by omega⟩ ⟨j - 2, by omega⟩) else 0

/-- The flattened image at `q` is the image at row `q / 256`, column `q % 256`. -/
theorem flat_at (Y : FVec Ideal S2x96x224x256 .bf16) (b : Fin 2) (ci : Fin 96) (q : Fin 57344) :
    shapeCast S2x96x57344 Y shapeCasts_S2x96x224x256_S2x96x57344 (ix3 b ci q)
      = Y (ix4 b ci ⟨q.val / 256, by omega⟩ ⟨q.val % 256, Nat.mod_lt _ (by decide)⟩) := by
  pointwise

/-- The zero that the convolution writes beyond the image is 0. -/
theorem z0_eq : (Conv.z0 (F := Ideal) : EReal) = 0 := by
  show Ideal.ofBits .bf16 0x0000#16 = 0
  simp

/-- A lengthened row is the image row, then zeros. -/
theorem longRows_at (X : FVec Ideal S2x96x224x224 .f32) (b : Fin 2) (ci : Fin 96) (r : Fin 224) (d : Fin 256) :
    longRows X (ix4 b ci r d) = if h : d.val < 224 then X (ix4 b ci r ⟨d.val, h⟩) else 0 := rfl

/-- A place of the strip, in the bordered image. -/
theorem strip_core (X : FVec Ideal S2x96x224x224 .f32) (g : ℕ) (h4 : g < 4) (b : Fin 2) (ci : Fin 96) (dx ky : Fin 5) (r : Fin 56) (x : Fin 224) (p : ℕ)
    (hp : p = 254 + dx.val + (ky.val * 256 + r.val * 256 + x.val)) :
    (if h : 768 ≤ g * 14336 + p ∧ g * 14336 + p < 58112 then
        shapeCast S2x96x57344 (longRows X) shapeCasts_S2x96x224x256_S2x96x57344 (ix3 b ci ⟨g * 14336 + p - 768, by omega⟩) else (0 : EReal))
      = bordered X b ci (g * 56 + r.val + ky.val) (x.val + dx.val) := by
  unfold bordered
  by_cases h : 768 ≤ g * 14336 + p ∧ g * 14336 + p < 58112
  · rw [dif_pos h, flat_at]
    rw [longRows_at]
    by_cases h2 : (2 ≤ g * 56 + r.val + ky.val ∧ g * 56 + r.val + ky.val < 226) ∧ 2 ≤ x.val + dx.val ∧ x.val + dx.val < 226
    · rw [dif_pos h2, dif_pos (by dsimp only; omega)]
      exact congrArg X ((ix4_inj ..).2 ⟨rfl, rfl, Fin.ext (by dsimp only; omega), Fin.ext (by dsimp only; omega)⟩)
    · rw [dif_neg h2, dif_neg (by dsimp only; omega)]
  · rw [dif_neg h, dif_neg (by omega)]

/-- The strip of a step is the bordered image's rows, end to end. -/
theorem strip_at (X : FVec Ideal S2x96x224x224 .f32) (n : ℕ) (ci : Fin 96) (dx ky : Fin 5) (r : Fin 56) (x : Fin 224) (hp) :
    Conv.stripV (F := Ideal) n (shapeCast S2x96x57344 (longRows X) shapeCasts_S2x96x224x256_S2x96x57344)
        (ix3 0 ci ⟨254 + dx.val + (ky.val * 256 + r.val * 256 + x.val), hp⟩)
      = bordered X ⟨n / 4 % 2, Nat.mod_lt _ (by decide)⟩ ci (n % 4 * 56 + r.val + ky.val) (x.val + dx.val) := by
  unfold Conv.stripV
  rw [z0_eq]
  exact strip_core X (n % 4) (Nat.mod_lt _ (by decide)) ⟨n / 4 % 2, Nat.mod_lt _ (by decide)⟩ ci dx ky r x _ rfl

/-- The convolution's result. -/
def convolved (w : FVec Ideal S2x5x96x480 .bf16) (X : FVec Ideal S2x96x224x224 .f32) : FVec Ideal S2x96x224x224 .f32 := fun i =>
  ∑ ky : Fin 5, ∑ dx : Fin 5, ∑ ci : Fin 96, w (ix4 (i 0) ky (i 1) ⟨dx.val * 96 + ci.val, by omega⟩)
    * bordered X (i 0) ci ((i 2 : Fin 224).val + ky.val) ((i 3 : Fin 224).val + dx.val)

variable (V : Valuation τ sig (Elt Ideal)) (c : Dev nD)

/-- The block that one step computes is, at each of its places, the convolution at the place of the whole result. -/
theorem conv_point (X : FVec Ideal S2x96x224x224 .f32)
    (hX : V main_v96 = shapeCast S2x96x57344 (longRows X) shapeCasts_S2x96x224x256_S2x96x57344)
    (t : Fin cfg1.N) (y) (z : S1x96x56x224.Idx) (hz : ∀ a, (z a : ℕ) = y a) :
    resBlk V t z = convolved (V main_v95) X (((cfg1.win 1).blk t).view.emb y) := by
  have htl : t.val < 8 := t.isLt
  have h0 := hz 0; have h1 := hz 1; have h2 := hz 2; have h3 := hz 3
  idx_vars z
  have hb : t.val / 4 < 2 := by omega
  have e0 : ((((cfg1.win 1).blk t).view.emb y) 0 : Fin 2) = (⟨t.val / 4, hb⟩ : Fin 2) := Fin.ext (by blk_simp [idx1 t])
  have e1 : ((((cfg1.win 1).blk t).view.emb y) 1 : Fin 96) = z1 := Fin.ext (by blk_simp [idx1 t]; exact h1.symm)
  have e2 : (((((cfg1.win 1).blk t).view.emb y) 2 : Fin 224) : ℕ) = t.val % 4 * 56 + z2.val := by blk_simp [idx1 t]; exact congrArg _ h2.symm
  have e3 : (((((cfg1.win 1).blk t).view.emb y) 3 : Fin 224) : ℕ) = z3.val := by blk_simp [idx1 t]; exact h3.symm
  unfold convolved resBlk
  rw [e0, e1, e2, e3, hX]
  refine (block_at (wBlk V t) _ z0 z1 z2 z3).trans ?_
  refine Finset.sum_congr rfl fun ky _ => Finset.sum_congr rfl fun dx _ => Finset.sum_congr rfl fun ci _ => ?_
  refine Ideal.mul_congr ?_ ?_
  · show wBlk V t _ = V main_v95 _
    blk_ext [wBlk, idx1 t]
  · refine (strip_at X t.val ci dx ky z2 z3 _).trans ?_
    rw [show (⟨t.val / 4 % 2, Nat.mod_lt _ (by decide)⟩ : Fin 2) = ⟨t.val / 4, hb⟩ from Fin.ext (by dsimp only; omega)]

/-- After a step the result window holds the block that the step computes. -/
theorem after1_res (t : Fin cfg1.N) : (dat1 V c).after 1 t = resBlk V t := rfl

/-- At the end of the convolving call its result is the convolution of the image. -/
theorem conv_final (X : FVec Ideal S2x96x224x224 .f32)
    (hX : V main_v96 = shapeCast S2x96x57344 (longRows X) shapeCasts_S2x96x224x256_S2x96x57344) :
    (dat1 V c).arrAt 1 cfg1.N = convolved (V main_v95) X := by
  refine (dat1 V c).arrAt_eq_of_covers 1 _ (by decide +kernel) fun t _ y => ?_
  refine (cast_eq _ _).trans ?_
  rw [after1_res]
  exact conv_point V X hX t y _ fun _ => rfl

end Cert.KernelIdeal.Arrays

end
-- ==== Proof.Windows.lean ====
/-
  The reference's stacked windows and its convolutions, element by element.
-/
module

public import proofs.«01_k».proof.Proof.Gen.ReferenceIdeal.Run
public import proofs.«01_k».proof.Proof.ConvValue

@[expose] public section

set_option maxRecDepth 16384

noncomputable section

namespace Cert.ReferenceIdeal.Windows

open Cert.ReferenceIdeal Cert.ReferenceIdeal.Gen Cert.ReferenceIdeal.Value Idealize.ShloMosaic Idealize.ShloMosaic.TcCoe Idealize.SL.Sem
open Cert.KernelIdeal.Arrays (bordered)

/-- The image with a border of one zero. -/
def padOne (X : FVec Ideal S2x96x224x224 .f32) : FVec Ideal S2x96x226x226 .f32 :=
  pad S2x96x226x226 ![0, 0, 1, 1] ![0, 0, 1, 1] ![0, 0, 0, 0] X (sitofp .f32 (constantI S_ 32 0#32)) pads_S2x96x224x224_S2x96x226x226_000_000_110_110 h_S_

/-- The image with a border of two zeroes. -/
def padTwo (X : FVec Ideal S2x96x224x224 .f32) : FVec Ideal S2x96x228x228 .f32 :=
  pad S2x96x228x228 ![0, 0, 2, 2] ![0, 0, 2, 2] ![0, 0, 0, 0] X (sitofp .f32 (constantI S_ 32 0#32)) pads_S2x96x224x224_S2x96x228x228_000_000_220_220 h_S_

/-- The integer 0 converted to a float is 0. -/
theorem zero_word : (FloatOps.sitofp .f32 (0#32) : Ideal .f32) = (0 : EReal) := by
  show (((0#32 : BitVec 32).toInt : ℝ) : EReal) = 0
  simp

/-- The image with a border of one pixel, read at a place. -/
theorem padOne_at (X : FVec Ideal S2x96x224x224 .f32) (b : Fin 2) (c : Fin 96) (i j : Fin 226) :
    padOne X (ix4 b c i j) = bordered X b c (i.val + 1) (j.val + 1) := by
  unfold bordered
  pointwise [padOne]
  rw [zero_word]
  by_cases h : (1 ≤ i.val ∧ i.val + 1 < 226) ∧ 1 ≤ j.val ∧ j.val + 1 < 226
  · rw [dif_pos (by omega), dif_pos (by omega)]
    exact congrArg X ((ix4_inj ..).2 ⟨rfl, rfl, Fin.ext (by dsimp only; omega), Fin.ext (by dsimp only; omega)⟩)
  · rw [dif_neg (by omega), dif_neg (by omega)]

/-- The image with a border of two pixels, read at a place. -/
theorem padTwo_at (X : FVec Ideal S2x96x224x224 .f32) (b : Fin 2) (c : Fin 96) (i j : Fin 228) :
    padTwo X (ix4 b c i j) = bordered X b c i.val j.val := by
  unfold bordered
  pointwise [padTwo]
  rw [zero_word]
  by_cases h : (2 ≤ i.val ∧ i.val < 226) ∧ 2 ≤ j.val ∧ j.val < 226
  · rw [dif_pos (by omega), dif_pos (by omega)]
  · rw [dif_neg (by omega), dif_neg (by omega)]

variable (V : Valuation τ sig (Elt Ideal))

/-- The first padded array is the image with a border of one pixel. -/
theorem v41_eq : res_main_v41 (F := Ideal) V = padOne (V main_arg0) := rfl
/-- The second padded array is the image with a border of two pixels. -/
theorem v56_eq : res_main_v56 (F := Ideal) V = padTwo (V main_arg0) := rfl

/-- The stack of three row shifts holds the padded image shifted down by the stack index. -/
theorem v48_at (b : Fin 2) (c : Fin 96) (i : Fin 3) (r : Fin 224) (j : Fin 226) :
    res_main_v48 (F := Ideal) V (ix5 b c i r j) = res_main_v41 (F := Ideal) V (ix4 b c ⟨r.val + i.val, by omega⟩ j) := by
  pointwise [res_main_v48]
  split_ifs <;> exact congrArg (res_main_v41 V) ((ix4_inj ..).2 ⟨rfl, rfl, Fin.ext (by dsimp only; omega), rfl⟩)

/-- The 3x3 windows hold, at tap `(i, j)` and pixel `(r, x)`, the bordered image shifted by the tap. -/
theorem v55_at (b : Fin 2) (c : Fin 96) (i j : Fin 3) (r x : Fin 224) :
    res_main_v55 (F := Ideal) V (ix6 b c i j r x) = bordered (V main_arg0) b c (r.val + i.val + 1) (x.val + j.val + 1) := by
  refine Eq.trans (b := res_main_v48 (F := Ideal) V (ix5 b c i r ⟨x.val + j.val, by omega⟩)) ?_ ?_
  · pointwise [res_main_v55]
    split_ifs <;> exact congrArg (res_main_v48 V) ((ix5_inj ..).2 ⟨rfl, rfl, rfl, rfl, Fin.ext (by dsimp only; omega)⟩)
  · exact (v48_at V b c i r _).trans (padOne_at _ b c _ _)

/-- The stack of five row shifts holds the padded image shifted down by the stack index. -/
theorem v67_at (b : Fin 2) (c : Fin 96) (i : Fin 5) (r : Fin 224) (j : Fin 228) :
    res_main_v67 (F := Ideal) V (ix5 b c i r j) = res_main_v56 (F := Ideal) V (ix4 b c ⟨r.val + i.val, by omega⟩ j) := by
  pointwise [res_main_v67]
  split_ifs <;> exact congrArg (res_main_v56 V) ((ix4_inj ..).2 ⟨rfl, rfl, Fin.ext (by dsimp only; omega), rfl⟩)

/-- The 5x5 windows hold, at tap `(i, j)` and pixel `(r, x)`, the bordered image shifted by the tap. -/
theorem v78_at (b : Fin 2) (c : Fin 96) (i j : Fin 5) (r x : Fin 224) :
    res_main_v78 (F := Ideal) V (ix6 b c i j r x) = bordered (V main_arg0) b c (r.val + i.val) (x.val + j.val) := by
  refine Eq.trans (b := res_main_v67 (F := Ideal) V (ix5 b c i r ⟨x.val + j.val, by omega⟩)) ?_ ?_
  · pointwise [res_main_v78]
    split_ifs <;> exact congrArg (res_main_v67 V) ((ix5_inj ..).2 ⟨rfl, rfl, rfl, rfl, Fin.ext (by dsimp only; omega)⟩)
  · exact (v67_at V b c i r _).trans (padTwo_at _ b c _ _)

/-! ## The convolutions -/

/-- The indices of a contraction over three axes are the triples of the axes' coordinates. -/
def contrEquiv3 {sl sr so : Shape} (D : DotDims sl sr so) (n0 n1 n2 : ℕ) (hr : D.contr.rank = 3)
    (h0 : D.contr.size ⟨0, by omega⟩ = n0) (h1 : D.contr.size ⟨1, by omega⟩ = n1) (h2 : D.contr.size ⟨2, by omega⟩ = n2) :
    D.contr.Idx ≃ Fin n0 × Fin n1 × Fin n2 where
  toFun q := ((q ⟨0, by omega⟩).cast h0, (q ⟨1, by omega⟩).cast h1, (q ⟨2, by omega⟩).cast h2)
  invFun p := fun a =>
    if ha : a.val = 0 then p.1.cast (h0.symm.trans (congrArg D.contr.size (Fin.ext ha.symm)))
    else if hb : a.val = 1 then p.2.1.cast (h1.symm.trans (congrArg D.contr.size (Fin.ext hb.symm)))
    else p.2.2.cast (h2.symm.trans (congrArg D.contr.size (Fin.ext (by have := a.isLt; show 2 = a.val; omega))))
  left_inv q := by
    have p0 : 0 < D.contr.rank := by omega
    have p1 : 1 < D.contr.rank := by omega
    have p2 : 2 < D.contr.rank := by omega
    funext a
    by_cases ha : a.val = 0
    · obtain rfl : a = ⟨0, p0⟩ := Fin.ext ha
      simp
    · by_cases hb : a.val = 1
      · obtain rfl : a = ⟨1, p1⟩ := Fin.ext hb
        simp
      · obtain rfl : a = ⟨2, p2⟩ := Fin.ext (by have := a.isLt; show a.val = 2; omega)
        simp
  right_inv p := by
    refine Prod.ext (Fin.ext ?_) (Prod.ext (Fin.ext ?_) (Fin.ext ?_)) <;> simp

/-- A sum over the indices of a contraction over three axes is the triple sum over the axes' coordinates. -/
theorem sum_contr3 {sl sr so : Shape} (D : DotDims sl sr so) (n0 n1 n2 : ℕ) (hr : D.contr.rank = 3)
    (h0 : D.contr.size ⟨0, by omega⟩ = n0) (h1 : D.contr.size ⟨1, by omega⟩ = n1) (h2 : D.contr.size ⟨2, by omega⟩ = n2)
    (f : D.contr.Idx → EReal) :
    ∑ k, f k = ∑ a : Fin n0, ∑ b : Fin n1, ∑ c : Fin n2, f ((contrEquiv3 D n0 n1 n2 hr h0 h1 h2).symm (a, b, c)) := by
  rw [← Equiv.sum_comp (contrEquiv3 D n0 n1 n2 hr h0 h1 h2).symm f, Fintype.sum_prod_type]
  exact Finset.sum_congr rfl fun a _ => Fintype.sum_prod_type _

/-- The convolution of the 3x3 windows. -/
def convThree (U : FVec Ideal S2x96x3x3x224x224 .f32) (w : FVec Ideal S96x96x3x3 .f32) : FVec Ideal S2x96x224x224 .f32 :=
  transpose S2x96x224x224 [0, 3, 1, 2] (Host.dotGeneral dot_S2x96x3x3x224x224_S96x96x3x3_S2x224x224x96_123_123_045_0_n_n none U w) transposes_S2x224x224x96_S2x96x224x224_0_3_1_2

/-- The convolution of the 5x5 windows. -/
def convFive (U : FVec Ideal S2x96x5x5x224x224 .f32) (w : FVec Ideal S96x96x5x5 .f32) : FVec Ideal S2x96x224x224 .f32 :=
  transpose S2x96x224x224 [0, 3, 1, 2] (Host.dotGeneral dot_S2x96x5x5x224x224_S96x96x5x5_S2x224x224x96_123_123_045_0_n_n none U w) transposes_S2x224x224x96_S2x96x224x224_0_3_1_2

/-- The convolution with 1x1 kernels. -/
def convOne (U : FVec Ideal S2x96x224x224 .f32) (w : FVec Ideal S96x96 .f32) : FVec Ideal S2x96x224x224 .f32 :=
  transpose S2x96x224x224 [0, 3, 1, 2] (Host.dotGeneral dot_S2x96x224x224_S96x96_S2x224x224x96_1_1_023_0_n_n none U w) transposes_S2x224x224x96_S2x96x224x224_0_3_1_2

/-- The convolution of three times the channels with 1x1 kernels. -/
def convOneWide (U : FVec Ideal S2x288x224x224 .f32) (w : FVec Ideal S96x288 .f32) : FVec Ideal S2x96x224x224 .f32 :=
  transpose S2x96x224x224 [0, 3, 1, 2] (Host.dotGeneral dot_S2x288x224x224_S96x288_S2x224x224x96_1_1_023_0_n_n none U w) transposes_S2x224x224x96_S2x96x224x224_0_3_1_2

/-- Every channel under each of the three filters. -/
def underThree (U : FVec Ideal S2x96x5x5x224x224 .f32) (f : FVec Ideal S3x5x5 .f32) : FVec Ideal S2x288x224x224 .f32 :=
  shapeCast S2x288x224x224 (transpose S2x96x3x224x224 [0, 1, 4, 2, 3] (Host.dotGeneral dot_S2x96x5x5x224x224_S3x5x5_S2x96x224x224x3_23_12_0145_0_n_n none U f) transposes_S2x96x224x224x3_S2x96x3x224x224_0_1_4_2_3) shapeCasts_S2x96x3x224x224_S2x288x224x224

/-- Every channel under the one filter. -/
def underOne (U : FVec Ideal S2x96x3x3x224x224 .f32) (f : FVec Ideal S1x3x3 .f32) : FVec Ideal S2x96x224x224 .f32 :=
  shapeCast S2x96x224x224 (transpose S2x96x1x224x224 [0, 1, 4, 2, 3] (Host.dotGeneral dot_S2x96x3x3x224x224_S1x3x3_S2x96x224x224x1_23_12_0145_0_n_n none U f) transposes_S2x96x224x224x1_S2x96x1x224x224_0_1_4_2_3) shapeCasts_S2x96x1x224x224_S2x96x224x224

/-- The 3x3 convolution at a pixel is a sum over input channels and taps. -/
theorem convThree_at (U : FVec Ideal S2x96x3x3x224x224 .f32) (w : FVec Ideal S96x96x3x3 .f32) (b : Fin 2) (o : Fin 96) (r x : Fin 224) :
    convThree U w (ix4 b o r x) = ∑ c : Fin 96, ∑ i : Fin 3, ∑ j : Fin 3, U (ix6 b c i j r x) * w (ix4 o c i j) := by
  refine Eq.trans (b := Ideal.matmul dot_S2x96x3x3x224x224_S96x96x3x3_S2x224x224x96_123_123_045_0_n_n U w (fun _ => 0) (ix4 b r x o)) ?_ ?_
  · pointwise [convThree]
  unfold Ideal.matmul
  rw [zero_add, sum_contr3 dot_S2x96x3x3x224x224_S96x96x3x3_S2x224x224x96_123_123_045_0_n_n 96 3 3 rfl rfl rfl rfl]
  refine Finset.sum_congr rfl fun c _ => Finset.sum_congr rfl fun i _ => Finset.sum_congr rfl fun j _ => ?_
  refine Ideal.mul_congr (congrArg U (funext fun a => ?_)) (congrArg w (funext fun a => ?_)) <;> fin_cases a <;> rfl

/-- The 5x5 convolution at a pixel is a sum over input channels and taps. -/
theorem convFive_at (U : FVec Ideal S2x96x5x5x224x224 .f32) (w : FVec Ideal S96x96x5x5 .f32) (b : Fin 2) (o : Fin 96) (r x : Fin 224) :
    convFive U w (ix4 b o r x) = ∑ c : Fin 96, ∑ i : Fin 5, ∑ j : Fin 5, U (ix6 b c i j r x) * w (ix4 o c i j) := by
  refine Eq.trans (b := Ideal.matmul dot_S2x96x5x5x224x224_S96x96x5x5_S2x224x224x96_123_123_045_0_n_n U w (fun _ => 0) (ix4 b r x o)) ?_ ?_
  · pointwise [convFive]
  unfold Ideal.matmul
  rw [zero_add, sum_contr3 dot_S2x96x5x5x224x224_S96x96x5x5_S2x224x224x96_123_123_045_0_n_n 96 5 5 rfl rfl rfl rfl]
  refine Finset.sum_congr rfl fun c _ => Finset.sum_congr rfl fun i _ => Finset.sum_congr rfl fun j _ => ?_
  refine Ideal.mul_congr (congrArg U (funext fun a => ?_)) (congrArg w (funext fun a => ?_)) <;> fin_cases a <;> rfl

/-- The 1x1 convolution of 96 channels at a pixel is a sum over the channels. -/
theorem convOne_at (U : FVec Ideal S2x96x224x224 .f32) (w : FVec Ideal S96x96 .f32) (b : Fin 2) (o : Fin 96) (r x : Fin 224) :
    convOne U w (ix4 b o r x) = ∑ c : Fin 96, U (ix4 b c r x) * w (ix2 o c) := by
  pointwise [convOne]

/-- The 1x1 convolution of 288 channels at a pixel is a sum over the channels. -/
theorem convOneWide_at (U : FVec Ideal S2x288x224x224 .f32) (w : FVec Ideal S96x288 .f32) (b : Fin 2) (o : Fin 96) (r x : Fin 224) :
    convOneWide U w (ix4 b o r x) = ∑ c : Fin 288, U (ix4 b c r x) * w (ix2 o c) := by
  pointwise [convOneWide]

/-- Channel `c` of the image under the three filters is channel `c / 3` under filter `c % 3`. -/
theorem underThree_at (U : FVec Ideal S2x96x5x5x224x224 .f32) (f : FVec Ideal S3x5x5 .f32) (b : Fin 2) (c : Fin 288) (r x : Fin 224) :
    underThree U f (ix4 b c r x) = ∑ i : Fin 5, ∑ j : Fin 5,
      U (ix6 b ⟨c.val / 3, by omega⟩ i j r x) * f (ix3 ⟨c.val % 3, Nat.mod_lt _ (by decide)⟩ i j) := by
  pointwise [underThree]

/-- A channel of the image under one 3x3 filter is a sum over the taps. -/
theorem underOne_at (U : FVec Ideal S2x96x3x3x224x224 .f32) (f : FVec Ideal S1x3x3 .f32) (b : Fin 2) (c : Fin 96) (r x : Fin 224) :
    underOne U f (ix4 b c r x) = ∑ i : Fin 3, ∑ j : Fin 3, U (ix6 b c i j r x) * f (ix3 0 i j) := by
  pointwise [underOne]

end Cert.ReferenceIdeal.Windows

end
-- ==== Proof.Results.lean ====
/-
  The whole program's five results as functions of its arguments.
-/
module

public import proofs.«01_k».proof.Proof.ConvValue

@[expose] public section

set_option maxRecDepth 16384

noncomputable section

namespace Cert.KernelIdeal.Results

open Cert.KernelIdeal Cert.KernelIdeal.Gen Cert.KernelIdeal.Run Cert.KernelIdeal.HostRead Cert.KernelIdeal.Arrays
open Idealize.ShloMosaic Idealize.ShloMosaic.TcCoe Idealize.SL.Sem

/-- The gate's scores of an image batch. -/
def scoresOf (X : FVec Ideal S2x96x224x224 .f32) (G : FVec Ideal S96x4 .f32) : FVec Ideal S2x4 .f32 :=
  logits (F := Ideal) (mean (F := Ideal) (shapeCast S2x96 (channelSums X) shapeCasts_S2x1x96_S2x96)) G

/-- The four experts' kernels, each with the shared kernel added. -/
def kernels (C : FVec Ideal S96x96x3x3 .f32) (B : FVec Ideal S96x96x24 .f32) (R : FVec Ideal S96x288x1x1 .f32)
    (H : FVec Ideal S96x96x1x1 .f32) (S : FVec Ideal S96x96x3x3 .f32) : FVec Ideal S4x96x96x5x5 .f32 :=
  stack (F := Ideal) (addf (embed (F := Ideal) S) (embed (F := Ideal) (cdTaps (F := Ideal) C)) : FVec Ideal S96x96x5x5 .f32)
    (addf (embed (F := Ideal) S) (bayarTaps (F := Ideal) B) : FVec Ideal S96x96x5x5 .f32)
    (addf (embed (F := Ideal) S) (srmTaps (F := Ideal) R) : FVec Ideal S96x96x5x5 .f32)
    (addf (embed (F := Ideal) S) (embed (F := Ideal) (hfTaps (F := Ideal) H)) : FVec Ideal S96x96x5x5 .f32)

variable (m : (ℓ : Loc nD τ sig) → Buf (Elt Ideal) ℓ) (ρ : Dev nD → PrngReg) (c : Dev nD)

/-- The first result of the preparing call is the sum of every channel. -/
theorem V2_pool : V2 m (outs m) c main_v0_0 = channelSums (m ((c.tc : Thread nD τ).loc main_arg0)) := by
  rw [← after_prep]
  exact (Pipeline.afterRegion_arr (dat0 (V1 m c) c) (V1 m c) winFacts0.arr_inj 1).trans
    ((pool_final (V1 m c) c).trans (congrArg channelSums (V1_of m c main_arg0 (by decide))))

/-- The second result of the preparing call is the image with its rows lengthened by zeros. -/
theorem V2_rows : V2 m (outs m) c main_v0_1 = longRows (m ((c.tc : Thread nD τ).loc main_arg0)) := by
  rw [← after_prep]
  exact (Pipeline.afterRegion_arr (dat0 (V1 m c) c) (V1 m c) winFacts0.arr_inj 2).trans
    ((rows_final (V1 m c) c).trans (congrArg longRows (V1_of m c main_arg0 (by decide))))

/-- The kernel's gate scores are those of the image and the gate weights. -/
theorem scores_eq : scores m (outs m) c
    = scoresOf (m ((c.tc : Thread nD τ).loc main_arg0)) (m ((c.tc : Thread nD τ).loc main_arg1)) := by
  unfold scores scoresOf
  rw [V2_pool, V2_arg1]

/-- The result of the convolving call is the convolution of the image with the selected taps. -/
theorem out_eq : V12 m (outs m) c main_v97
    = convolved (taps (F := Ideal) (topI (F := Ideal) (scoresOf (m ((c.tc : Thread nD τ).loc main_arg0)) (m ((c.tc : Thread nD τ).loc main_arg1))))
        (kernels (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6))))
      (m ((c.tc : Thread nD τ).loc main_arg0)) := by
  rw [V12_result]
  refine (conv_final (VC m c) c (m ((c.tc : Thread nD τ).loc main_arg0)) ?_).trans ?_
  · rw [← V11_outs, V11_strips, V2_rows]
  · rw [← V11_outs, V11_taps, scores_eq]
    rfl

/-- The results, when the whole program has run. -/
theorem run_values : θ_run defs (onTc (τ := τ) (main (F := Ideal))) ⟨m, fun _ => 0, ρ⟩ fun r => ∀ c : Dev nD,
    r.2.mem ((c.tc : Thread nD τ).loc main_v97)
        = convolved (taps (F := Ideal) (topI (F := Ideal) (scoresOf (m ((c.tc : Thread nD τ).loc main_arg0)) (m ((c.tc : Thread nD τ).loc main_arg1))))
          (kernels (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6))))
          (m ((c.tc : Thread nD τ).loc main_arg0))
      ∧ r.2.mem ((c.tc : Thread nD τ).loc main_v41) = loss (F := Ideal) (importance (F := Ideal) (weights (F := Ideal) (scoresOf (m ((c.tc : Thread nD τ).loc main_arg0)) (m ((c.tc : Thread nD τ).loc main_arg1)))))
      ∧ r.2.mem ((c.tc : Thread nD τ).loc main_v34) = served (F := Ideal) (weights (F := Ideal) (scoresOf (m ((c.tc : Thread nD τ).loc main_arg0)) (m ((c.tc : Thread nD τ).loc main_arg1))))
      ∧ r.2.mem ((c.tc : Thread nD τ).loc main_v35) = importance (F := Ideal) (weights (F := Ideal) (scoresOf (m ((c.tc : Thread nD τ).loc main_arg0)) (m ((c.tc : Thread nD τ).loc main_arg1))))
      ∧ r.2.mem ((c.tc : Thread nD τ).loc main_v30) = weights (F := Ideal) (scoresOf (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  θ_run_mono (run_main m ρ) fun r h c =>
    ⟨(read_end m (h.1 c) main_v97 (by decide)).trans (out_eq m c),
      (read_end m (h.1 c) main_v41 (by decide)).trans (by rw [V12_off m c main_v41 (by decide), ← V11_outs, V11_loss, scores_eq]),
      (read_end m (h.1 c) main_v34 (by decide)).trans (by rw [V12_off m c main_v34 (by decide), ← V11_outs, V11_served, scores_eq]),
      (read_end m (h.1 c) main_v35 (by decide)).trans (by rw [V12_off m c main_v35 (by decide), ← V11_outs, V11_importance, scores_eq]),
      (read_end m (h.1 c) main_v30 (by decide)).trans (by rw [V12_off m c main_v30 (by decide), ← V11_outs, V11_weights, scores_eq]),
      args_end m (read_end m (h.1 c))⟩

end Cert.KernelIdeal.Results

end
-- ==== Proof.Gate.lean ====
/-
  The gate: the two programs compute the same scores, so the same weights, importances and loss.
-/
module

public import proofs.«01_k».proof.Proof.Gen.ReferenceIdeal.Run
public import proofs.«01_k».proof.Proof.Results

@[expose] public section

set_option maxRecDepth 16384

noncomputable section

namespace Cert.ReferenceIdeal.Gate

open Cert.ReferenceIdeal Cert.ReferenceIdeal.Gen Cert.ReferenceIdeal.Value Idealize.ShloMosaic Idealize.ShloMosaic.TcCoe Idealize.SL.Sem
open Cert.KernelIdeal.HostRead (logits mean weights served importance loss)
open Cert.KernelIdeal.Results (scoresOf)
open Cert.KernelIdeal.Arrays (channelSums)

/-- The channels' sums, as the reference takes them. -/
theorem sums_eq (X : FVec Ideal S2x96x224x224 .f32) :
    Host.reduceAdd (F := Ideal) X (constant S_ .f32 0x00000000#32) reducesTo_S2x96x224x224_S2x96_d2_3 h_S_
      = shapeCast S2x96 (channelSums X) Cert.KernelIdeal.Gen.shapeCasts_S2x1x96_S2x96 := by
  funext j
  idx_vars j
  pointwise [channelSums]

variable (V : Valuation τ sig (Elt Ideal))

/-- The reference's gate scores are those of the image and the gate weights. -/
theorem scores_ref : res_main_v3 (F := Ideal) V = scoresOf (V main_arg0) (V main_arg1) := by
  unfold res_main_v3 scoresOf
  rw [sums_eq]
  rfl

/-- The reference's gate weights are the one-hot weights of the scores. -/
theorem weights_ref : res_main_v29 (F := Ideal) V = weights (F := Ideal) (scoresOf (V main_arg0) (V main_arg1)) := by
  rw [← scores_ref]; rfl

/-- The reference's expert importance is that of the weights. -/
theorem importance_ref : res_main_v34 (F := Ideal) V = importance (F := Ideal) (weights (F := Ideal) (scoresOf (V main_arg0) (V main_arg1))) := by
  rw [← weights_ref]; rfl

/-- The reference's counts of examples are those of the weights. -/
theorem served_ref : served (F := Ideal) (res_main_v29 (F := Ideal) V) = served (F := Ideal) (weights (F := Ideal) (scoresOf (V main_arg0) (V main_arg1))) :=
  congrArg (served (F := Ideal)) (weights_ref V)

/-- The reference's auxiliary loss is that of the importance. -/
theorem loss_ref : loss (F := Ideal) (res_main_v34 (F := Ideal) V) = loss (F := Ideal) (importance (F := Ideal) (weights (F := Ideal) (scoresOf (V main_arg0) (V main_arg1)))) :=
  congrArg (loss (F := Ideal)) (importance_ref V)

end Cert.ReferenceIdeal.Gate

end
-- ==== Proof.Algebra.lean ====
/-
  Sums and products of extended reals of which enough are real for the distributive laws.
-/
module

public import Idealize.ShloMosaic.Lib.Pointwise

@[expose] public section

noncomputable section

namespace Cert.Algebra

open Idealize.ShloMosaic

/-- An extended real that is a real number. -/
def Rl (x : EReal) : Prop := ∃ r : ℝ, x = (r : EReal)

/-- Zero is a real. -/
theorem Rl.zero : Rl 0 := ⟨0, rfl⟩
/-- The sum of two reals is a real. -/
theorem Rl.add {x y : EReal} : Rl x → Rl y → Rl (x + y) := by
  rintro ⟨a, rfl⟩ ⟨b, rfl⟩; exact ⟨a + b, (EReal.coe_add a b).symm⟩
/-- The product of two reals is a real. -/
theorem Rl.mul {x y : EReal} : Rl x → Rl y → Rl (x * y) := by
  rintro ⟨a, rfl⟩ ⟨b, rfl⟩; exact ⟨a * b, (EReal.coe_mul a b).symm⟩
/-- A finite sum of reals is a real. -/
theorem Rl.sum {ι : Type} (s : Finset ι) (f : ι → EReal) (h : ∀ i, Rl (f i)) : Rl (∑ i ∈ s, f i) := by
  classical
  induction s using Finset.induction_on with
  | empty => exact ⟨0, rfl⟩
  | insert a s ha ih => rw [Finset.sum_insert ha]; exact (h a).add ih

/-- Real summand and factor: the product distributes. -/
theorem add_mul_real {s e x : EReal} (hs : Rl s) (hx : Rl x) : (s + e) * x = s * x + e * x := by
  obtain ⟨s, rfl⟩ := hs
  obtain ⟨x, rfl⟩ := hx
  induction e using EReal.rec with
  | coe e => exact_mod_cast congrArg (Real.toEReal) (add_mul s e x)
  | top =>
    rw [EReal.coe_add_top]
    rcases lt_trichotomy x 0 with h | h | h
    · rw [EReal.top_mul_coe_of_neg h, ← EReal.coe_mul, EReal.add_bot]
    · subst h; simp
    · rw [EReal.top_mul_coe_of_pos h, ← EReal.coe_mul, EReal.coe_add_top]
  | bot =>
    rw [EReal.add_bot]
    rcases lt_trichotomy x 0 with h | h | h
    · rw [EReal.bot_mul_coe_of_neg h, ← EReal.coe_mul, EReal.coe_add_top]
    · subst h; simp
    · rw [EReal.bot_mul_coe_of_pos h, ← EReal.coe_mul, EReal.add_bot]

/-- A sum of reals times a real. -/
theorem sum_mul_real {ι : Type} (s : Finset ι) (f : ι → EReal) (x : EReal) (hf : ∀ i, Rl (f i)) (hx : Rl x) :
    (∑ i ∈ s, f i) * x = ∑ i ∈ s, f i * x := by
  classical
  induction s using Finset.induction_on with
  | empty => simp
  | insert a s ha ih => rw [Finset.sum_insert ha, Finset.sum_insert ha, add_mul_real (hf a) hx, ih]

/-- A real factor on the left of a finite sum of reals goes into the sum. -/
theorem mul_sum_real {ι : Type} (s : Finset ι) (f : ι → EReal) (x : EReal) (hf : ∀ i, Rl (f i)) (hx : Rl x) :
    x * (∑ i ∈ s, f i) = ∑ i ∈ s, x * f i := by
  rw [EReal.mul_comm, sum_mul_real s f x hf hx]
  exact Finset.sum_congr rfl fun i _ => EReal.mul_comm _ _

/-- A kernel of nine taps in the middle of twenty-five. -/
def framed (w : Fin 3 → Fin 3 → EReal) (i j : Fin 5) : EReal :=
  if h : (1 ≤ i.val ∧ i.val < 4) ∧ 1 ≤ j.val ∧ j.val < 4 then w ⟨i.val - 1, by omega⟩ ⟨j.val - 1, by omega⟩ else 0

/-- Twenty-five taps of which the border is zero. -/
theorem sum_framed (w : Fin 3 → Fin 3 → EReal) (f : ℕ → ℕ → EReal) :
    (∑ i : Fin 5, ∑ j : Fin 5, framed w i j * f i.val j.val) = ∑ i : Fin 3, ∑ j : Fin 3, w i j * f (i.val + 1) (j.val + 1) := by
  simp [Fin.sum_univ_five, Fin.sum_univ_three, framed]

/-- Nine taps of which the middle alone is other than zero. -/
theorem sum_middle (t : EReal) (f : Fin 3 → Fin 3 → EReal) :
    (∑ i : Fin 3, ∑ j : Fin 3, if i = 1 ∧ j = 1 then f i j else 0) = f 1 1 := by
  simp [Fin.sum_univ_three]

/-- The pattern of a finite f32 number denotes a real. -/
theorem Rl.bits (b : BitVec 32) (h : (b.extractLsb' 23 8).toNat ≠ 255) : Rl (Ideal.ofBits .f32 b) := by
  show Rl (Ideal.ieee 8 23 b)
  unfold Ideal.ieee
  dsimp only
  rw [if_neg (by simpa using h)]
  split
  · exact ⟨_, rfl⟩
  · exact ⟨_, rfl⟩

/-- The central-difference kernel over the nine windows: the plain kernel's sum less the weighted sum over the middles. -/
theorem central {ι : Type} [Fintype ι] (w : ι → Fin 3 → Fin 3 → EReal) (B : ι → Fin 3 → Fin 3 → EReal) (S : ι → EReal) (k θ : EReal)
    (hk : k = -θ) (hθ : Rl θ) (hw : ∀ c i j, Rl (w c i j)) (hB : ∀ c i j, Rl (B c i j)) (hS : ∀ c, Rl (S c)) :
    (∑ c, ∑ i : Fin 3, ∑ j : Fin 3, (if i = 1 ∧ j = 1 then w c i j + k * S c else w c i j) * B c i j)
      = (∑ c, ∑ i : Fin 3, ∑ j : Fin 3, B c i j * w c i j) - θ * ∑ c, B c 1 1 * S c := by
  have step : ∀ c, (∑ i : Fin 3, ∑ j : Fin 3, (if i = 1 ∧ j = 1 then w c i j + k * S c else w c i j) * B c i j)
      = (∑ i : Fin 3, ∑ j : Fin 3, B c i j * w c i j) + k * S c * B c 1 1 := by
    intro c
    rw [← sum_middle 0 (fun i j => k * S c * B c i j), ← Finset.sum_add_distrib]
    refine Finset.sum_congr rfl fun i _ => ?_
    rw [← Finset.sum_add_distrib]
    refine Finset.sum_congr rfl fun j _ => ?_
    by_cases h : i = 1 ∧ j = 1
    · rw [if_pos h, if_pos h, add_mul_real (hw c i j) (hB c i j), EReal.mul_comm (w c i j)]
    · rw [if_neg h, if_neg h, add_zero, EReal.mul_comm]
  rw [Finset.sum_congr rfl fun c _ => step c, Finset.sum_add_distrib, sub_eq_add_neg]
  refine congrArg _ ?_
  rw [← EReal.neg_mul, ← hk, mul_sum_real _ _ _ (fun c => (hB c 1 1).mul (hS c))
    (hk ▸ by obtain ⟨r, rfl⟩ := hθ; exact ⟨-r, rfl⟩)]
  refine Finset.sum_congr rfl fun c _ => ?_
  rw [mul_assoc, EReal.mul_comm (S c)]

/-- Filters weighted and added before the windows are summed, or after. -/
theorem filtered {ι : Type} [Fintype ι] {n p q : ℕ} (w : ι → Fin n → EReal) (f : Fin n → Fin p → Fin q → EReal) (B : ι → Fin p → Fin q → EReal)
    (hw : ∀ c k, Rl (w c k)) (hf : ∀ k i j, Rl (f k i j)) (hB : ∀ c i j, Rl (B c i j)) :
    (∑ c, ∑ i, ∑ j, (∑ k, w c k * f k i j) * B c i j) = ∑ c, ∑ k, (∑ i, ∑ j, B c i j * f k i j) * w c k := by
  refine Finset.sum_congr rfl fun c _ => ?_
  have e : ∀ k, (∑ i, ∑ j, B c i j * f k i j) * w c k = ∑ i, ∑ j, w c k * f k i j * B c i j := by
    intro k
    rw [sum_mul_real _ _ _ (fun i => Rl.sum _ _ fun j => (hB c i j).mul (hf k i j)) (hw c k)]
    refine Finset.sum_congr rfl fun i _ => ?_
    rw [sum_mul_real _ _ _ (fun j => (hB c i j).mul (hf k i j)) (hw c k)]
    refine Finset.sum_congr rfl fun j _ => ?_
    rw [EReal.mul_comm (B c i j * f k i j), EReal.mul_comm (B c i j), mul_assoc]
  rw [Finset.sum_congr rfl fun k _ => e k]
  refine Eq.trans (Finset.sum_congr rfl fun i _ => ?_) Finset.sum_comm
  refine Eq.trans (Finset.sum_congr rfl fun j _ => ?_) Finset.sum_comm
  exact sum_mul_real _ _ _ (fun k => (hw c k).mul (hf k i j)) (hB c i j)

/-- The order of a window's sum. -/
theorem sum_turn {ι : Type} [Fintype ι] {p q : ℕ} (f : Fin p → Fin q → ι → EReal) :
    (∑ i, ∑ j, ∑ c, f i j c) = ∑ c, ∑ i, ∑ j, f i j c := by
  have e : ∀ i, (∑ j, ∑ c, f i j c) = ∑ c, ∑ j, f i j c := fun i => Finset.sum_comm
  rw [Finset.sum_congr rfl fun i _ => e i]
  exact Finset.sum_comm

end Cert.Algebra

end
-- ==== Proof.Taps.lean ====
/-
  The experts' kernels, tap by tap.
-/
module

public import proofs.«01_k».proof.Proof.Results
public import proofs.«01_k».proof.Proof.Algebra
public import Idealize.ShloMosaic.Lib.Routing.OpsPair

@[expose] public section

set_option maxRecDepth 16384

noncomputable section

namespace Cert.KernelIdeal.Taps

open Cert.KernelIdeal Cert.KernelIdeal.Gen Cert.KernelIdeal.HostRead Cert.KernelIdeal.Results Cert.Algebra
open Idealize.ShloMosaic Idealize.ShloMosaic.TcCoe Idealize.SL.Sem

/-- The integer 0 converted to a float is 0. -/
theorem zero_pad : (FloatOps.sitofp .f32 (0#32) : Ideal .f32) = (0 : EReal) := by
  show (((0#32 : BitVec 32).toInt : ℝ) : EReal) = 0
  simp

/-- A 3x3 kernel in the middle of a 5x5 one. -/
theorem embed_at (w : FVec Ideal S96x96x3x3 .f32) (o ci : Fin 96) (ky dx : Fin 5) :
    embed (F := Ideal) w (ix4 o ci ky dx) = framed (fun i j => w (ix4 o ci i j)) ky dx := by
  unfold framed
  pointwise [embed, padZero]
  rw [zero_pad]
  by_cases h : (1 ≤ ky.val ∧ ky.val < 4) ∧ 1 ≤ dx.val ∧ dx.val < 4
  · rw [dif_pos (by omega), dif_pos (by omega)]
  · rw [dif_neg (by omega), dif_neg (by omega)]

variable (C : FVec Ideal S96x96x3x3 .f32) (B : FVec Ideal S96x96x24 .f32) (R : FVec Ideal S96x288x1x1 .f32)
    (H : FVec Ideal S96x96x1x1 .f32) (S : FVec Ideal S96x96x3x3 .f32)

/-- The central-difference expert's taps. -/
theorem kernels_0 (o ci : Fin 96) (ky dx : Fin 5) : kernels C B R H S (ix5 0 o ci ky dx)
    = embed (F := Ideal) S (ix4 o ci ky dx) + embed (F := Ideal) (cdTaps (F := Ideal) C) (ix4 o ci ky dx) := by
  pointwise [kernels, stack]
/-- The prediction-error expert's taps. -/
theorem kernels_1 (o ci : Fin 96) (ky dx : Fin 5) : kernels C B R H S (ix5 1 o ci ky dx)
    = embed (F := Ideal) S (ix4 o ci ky dx) + bayarTaps (F := Ideal) B (ix4 o ci ky dx) := by
  pointwise [kernels, stack]
/-- The noise-residual expert's taps. -/
theorem kernels_2 (o ci : Fin 96) (ky dx : Fin 5) : kernels C B R H S (ix5 2 o ci ky dx)
    = embed (F := Ideal) S (ix4 o ci ky dx) + srmTaps (F := Ideal) R (ix4 o ci ky dx) := by
  pointwise [kernels, stack]
/-- The high-frequency expert's taps. -/
theorem kernels_3 (o ci : Fin 96) (ky dx : Fin 5) : kernels C B R H S (ix5 3 o ci ky dx)
    = embed (F := Ideal) S (ix4 o ci ky dx) + embed (F := Ideal) (hfTaps (F := Ideal) H) (ix4 o ci ky dx) := by
  pointwise [kernels, stack]

/-- The noise-residual kernel. -/
theorem srm_at (o ci : Fin 96) (ky dx : Fin 5) : srmTaps (F := Ideal) R (ix4 o ci ky dx)
    = ∑ k : Fin 3, R (ix4 o ⟨ci.val * 3 + k.val, by omega⟩ 0 0) * filters (F := Ideal) (ix3 k ky dx) := by
  pointwise [srmTaps]

/-- The high-frequency kernel. -/
theorem hf_at (o ci : Fin 96) (i j : Fin 3) : hfTaps (F := Ideal) H (ix4 o ci i j) = H (ix4 o ci 0 0) * laplace (F := Ideal) (ix2 i j) := by
  pointwise [hfTaps]

/-- A fold that changes its value at one member alone. -/
theorem foldl_once {ι α : Type} (p : ι → Prop) [DecidablePred p] (g : α → ι → α) (n0 : ι) (hp : ∀ n, p n ↔ n = n0) :
    ∀ (l : List ι) (hl : l.Nodup) (a : α), n0 ∈ l → l.foldl (fun a n => if p n then g a n else a) a = g a n0 := by
  have no : ∀ (l : List ι) (a : α), n0 ∉ l → l.foldl (fun a n => if p n then g a n else a) a = a := by
    intro l
    induction l with
    | nil => intro a _; rfl
    | cons n l ih =>
      intro a hn
      rw [List.foldl_cons, if_neg fun h => hn (List.mem_cons.2 (Or.inl ((hp n).1 h).symm))]
      exact ih a fun h => hn (List.mem_cons_of_mem _ h)
  intro l
  induction l with
  | nil => intro _ a h; cases h
  | cons n l ih =>
    intro hl a h
    rw [List.foldl_cons]
    by_cases e : n = n0
    · subst e
      rw [if_pos ((hp n).2 rfl)]
      exact no l _ (List.nodup_cons.1 hl).1
    · rw [if_neg fun q => e ((hp n).1 q)]
      exact ih (List.nodup_cons.1 hl).2 a ((List.mem_cons.1 h).resolve_left fun q => e q.symm)

/-- A fold that applies its step only where a condition holds changes nothing if the condition never holds. -/
theorem foldl_never {ι α : Type} (p : ι → Prop) [DecidablePred p] (g : α → ι → α) (hp : ∀ n, ¬ p n) :
    ∀ (l : List ι) (a : α), l.foldl (fun a n => if p n then g a n else a) a = a := by
  intro l
  induction l with
  | nil => intro a; rfl
  | cons n l ih => intro a; rw [List.foldl_cons, if_neg (hp n)]; exact ih a

/-- Where the weighted sums of the kernels go: to the middles. -/
theorem middle_iff (idx : IVec S2 32) (h : ∀ a, idx a = 1#32) (o' ci' o ci : Fin 96) (i j : Fin 3) :
    scatter_S96x96x3x3_S2_S96x96_01_23_23_0.resultIdx? (ix2 o' ci') idx = some (ix4 o ci i j)
      ↔ (o' = o ∧ ci' = ci) ∧ i = 1 ∧ j = 1 := by
  rw [Routing.resultIdx?_eq_some]
  constructor
  · intro q
    have q0 : (0 : ℤ) + (o'.val : ℤ) = o.val := q 0
    have q1 : (0 : ℤ) + (ci'.val : ℤ) = ci.val := q 1
    have q2 : (idx _).toInt + ((0 : ℕ) : ℤ) = (i.val : ℤ) := q 2
    have q3 : (idx _).toInt + ((0 : ℕ) : ℤ) = (j.val : ℤ) := q 3
    rw [h] at q2 q3
    have e1 : (1#32 : BitVec 32).toInt = 1 := rfl
    rw [e1] at q2 q3
    refine ⟨⟨Fin.ext (by omega), Fin.ext (by omega)⟩, Fin.ext ?_, Fin.ext ?_⟩
    · show i.val = 1; omega
    · show j.val = 1; omega
  · rintro ⟨⟨rfl, rfl⟩, rfl, rfl⟩ a
    fin_cases a
    · exact zero_add _
    · exact zero_add _
    · show (idx _).toInt + ((0 : ℕ) : ℤ) = 1
      rw [h]; rfl
    · show (idx _).toInt + ((0 : ℕ) : ℤ) = 1
      rw [h]; rfl

/-- The central-difference kernel. -/
theorem cd_at (o ci : Fin 96) (i j : Fin 3) : cdTaps (F := Ideal) C (ix4 o ci i j)
    = if i = 1 ∧ j = 1 then C (ix4 o ci i j) + Ideal.ofBits .f32 0xBF333333#32 * ∑ i' : Fin 3, ∑ j' : Fin 3, C (ix4 o ci i' j') else C (ix4 o ci i j) := by
  unfold cdTaps
  rw [Routing.scatter_at]
  have hidx : ∀ a, (concatenate S2 0 [⟨S1, broadcastInDim S1 ![] bcast_S_S1 (constantI S_ 32 1#32)⟩, ⟨S1, broadcastInDim S1 ![] bcast_S_S1 (constantI S_ 32 1#32)⟩] concatenates_S1_S1_S2_d0 : IVec S2 32) a = 1#32 := by
    intro a
    idx_vars a
    pointwise
    split <;> rfl
  have back : ∀ n, ∃ o' ci' : Fin 96, S96x96.rowMajor.symm n = ix2 o' ci' := fun n => by
    generalize S96x96.rowMajor.symm n = k
    idx_vars k
    exact ⟨k0, k1, rfl⟩
  split
  · next h =>
    refine (foldl_once _ _ (S96x96.rowMajor (ix2 o ci)) (fun n => ?_) _ (List.nodup_finRange _) _ (List.mem_finRange _)).trans ?_
    · obtain ⟨o', ci', e⟩ := back n
      rw [e, middle_iff _ hidx, ← S96x96.rowMajor.symm_apply_eq, e, ix2_inj]
      exact ⟨fun q => q.1, fun q => ⟨q, h⟩⟩
    · rw [Equiv.symm_apply_apply]
      pointwise
  · next h =>
    refine foldl_never _ _ (fun n q => ?_) _ _
    obtain ⟨o', ci', e⟩ := back n
    rw [e, middle_iff _ hidx] at q
    exact h q.2

end Cert.KernelIdeal.Taps

end
-- ==== Proof.OneHot.lean ====
/-
  The gate of one expert: its weights are one at the expert and zero elsewhere, and the taps are that expert's.
-/
module

public import proofs.«01_k».proof.Proof.Results
public import proofs.«01_k».proof.Proof.Algebra
public import Idealize.ShloMosaic.Lib.Routing.OpsSet
public import Idealize.ShloMosaic.Lib.Routing.OpsPair

@[expose] public section

set_option maxRecDepth 16384

noncomputable section

namespace Cert.KernelIdeal.OneHot

open Cert.KernelIdeal Cert.KernelIdeal.Gen Cert.KernelIdeal.HostRead Cert.Algebra
open Idealize.ShloMosaic Idealize.ShloMosaic.TcCoe Idealize.SL.Sem

/-- The greatest score is one of the scores, and the word names it. -/
theorem top_at (L : FVec Ideal S2x4 .f32) (b : Fin 2) : ∃ e : Fin 4,
    topV (F := Ideal) L (ix2 b 0) = L (ix2 b e) ∧ topI (F := Ideal) L (ix2 b 0) = BitVec.ofNat 32 e.val := by
  have key : ∃ (e : Fin 4) (j : S2x4.Idx), j 0 = b ∧ topV (F := Ideal) L (ix2 b 0) = L (j.along 1 e) ∧ topI (F := Ideal) L (ix2 b 0) = BitVec.ofNat 32 (j.along 1 e 1).val :=
    ⟨_, _, Fin.ext (Nat.zero_add b.val), rfl, rfl⟩
  obtain ⟨e, j, hj, h1, h2⟩ := key
  have a : j.along 1 e = ix2 b e := by
    idx_vars j
    subst hj
    funext a
    fin_cases a <;> rfl
  rw [a] at h1 h2
  exact ⟨e, h1, h2⟩

/-- The float word of minus infinity is the bottom element. -/
theorem low_word : Ideal.ofBits .f32 0xFF800000#32 = (⊥ : EReal) := by
  simp [Ideal.ofBits, Ideal.ieee]

/-- The softmax of one real score is one. -/
theorem soft_at (v : FVec Ideal S2x1 .f32) (b : Fin 2) (h : Rl (v (ix2 b 0))) : softV (F := Ideal) v (ix2 b 0) = (1 : EReal) := by
  have e : expV (F := Ideal) v (ix2 b 0) = (1 : EReal) := by
    obtain ⟨r, hr⟩ := h
    pointwise [expV]
    rw [Finset.univ_unique, Finset.fold_singleton]
    show Ideal.exp (v (ix2 b 0) - max _ (max (v (ix2 b 0)) _)) = 1
    rw [hr, low_word, max_eq_right bot_le, max_eq_left bot_le, ← EReal.coe_sub, sub_self]
    show ((Real.exp 0 : ℝ) : EReal) = 1
    simp
  pointwise [softV]
  rw [Finset.univ_unique, Finset.sum_singleton]
  show Ideal.div (expV (F := Ideal) v (ix2 b 0)) (expV (F := Ideal) v (ix2 b 0)) = 1
  rw [e]
  simp [Ideal.div]

/-- A word below four, read signed. -/
theorem word_val (k : ℕ) (h : k < 4) : (BitVec.ofNat 32 k).toInt = k := by
  interval_cases k <;> rfl

/-- The row number of image `b` is the word of `b`. -/
theorem row_word (b : Fin 2) : rowsI (F := Ideal) (ix2 b 0) = BitVec.ofNat 32 b.val := by
  pointwise [rowsI]

/-- A number below 4 is not negative, so the wrapping of negative indices leaves it alone. -/
theorem wrap (k : ℕ) (h : k < 4) (a : BitVec 32) :
    Scalar.select (IntOp.cmpi .slt (BitVec.ofNat 32 k) 0#32) a (BitVec.ofNat 32 k) = BitVec.ofNat 32 k :=
  Routing.wrap_of_lt _ _ (by interval_cases k <;> decide)

/-- The first coordinate of the place that image `b` writes to is its own row. -/
theorem where_row (I : IVec S2x1 32) (b : Fin 2) : whereI (F := Ideal) I (ix3 b 0 0) = BitVec.ofNat 32 b.val := by
  pointwise [whereI]
  show Scalar.select (IntOp.cmpi .slt (rowsI (F := Ideal) (ix2 b 0)) 0#32) _ (rowsI (F := Ideal) (ix2 b 0)) = _
  rw [row_word]
  exact wrap _ (by omega) _

/-- The second coordinate of the place that image `b` writes to is its chosen expert. -/
theorem where_expert (I : IVec S2x1 32) (b : Fin 2) (e : Fin 4) (h : I (ix2 b 0) = BitVec.ofNat 32 e.val) :
    whereI (F := Ideal) I (ix3 b 0 1) = BitVec.ofNat 32 e.val := by
  pointwise [whereI]
  show Scalar.select (IntOp.cmpi .slt (I (ix2 b 0)) 0#32) _ (I (ix2 b 0)) = _
  rw [h]
  exact wrap _ (by omega) _

/-- Where the weight of an image goes. -/
theorem lands (idx : IVec S2x1x2 32) (a r : Fin 2) (c : Fin 4) :
    scatter_S2x4_S2x1x2_S2x1_n_01_01_2.resultIdx? (ix2 a 0) idx = some (ix2 r c)
      ↔ (idx (ix3 a 0 0)).toInt = r.val ∧ (idx (ix3 a 0 1)).toInt = c.val :=
  Routing.scatter_lands2 (R := 2) (C := 4) (A := 2) (B := 1) scatter_S2x4_S2x1x2_S2x1_n_01_01_2 rfl rfl rfl idx a 0 r c

/-- Every index of a one-column array is a row number and column 0. -/
theorem column (k : S2x1.Idx) : ∃ a : Fin 2, k = ix2 a 0 := by
  idx_vars k
  exact ⟨k0, congrArg _ (Subsingleton.elim _ _)⟩

/-- The weights of a gate whose scores are real. -/
theorem weights_at (L : FVec Ideal S2x4 .f32) (hL : ∀ i, Rl (L i)) (b : Fin 2) (e : Fin 4) (he : topI (F := Ideal) L (ix2 b 0) = BitVec.ofNat 32 e.val)
    (e' : Fin 4) : weights (F := Ideal) L (ix2 b e') = (if e' = e then 1 else 0 : EReal) := by
  have hs : ∀ b, softV (F := Ideal) (topV L) (ix2 b 0) = (1 : EReal) := fun b => by
    obtain ⟨k, hk, _⟩ := top_at L b
    exact soft_at _ b (hk ▸ hL _)
  unfold weights
  split
  · next h =>
    subst h
    refine Routing.scatter_set_hit _ _ _ _ _ _ (fun k _ => ?_) (ix2 b 0) ((lands _ _ _ _).2 ⟨?_, ?_⟩)
    · obtain ⟨a, rfl⟩ := column k
      exact hs a
    · rw [where_row]; exact word_val _ (by omega)
    · rw [where_expert _ b e' he]; exact word_val _ (by omega)
  · next h =>
    refine (Routing.scatter_set_miss _ _ _ _ _ fun k hk => ?_).trans ?_
    · obtain ⟨a, rfl⟩ := column k
      obtain ⟨h0, h1⟩ := (lands _ _ _ _).1 hk
      rw [where_row, word_val _ (by omega)] at h0
      have hab : a = b := Fin.ext (by exact_mod_cast h0)
      subst hab
      rw [where_expert _ a e he, word_val _ (by omega)] at h1
      exact h (Fin.ext (by exact_mod_cast h1.symm))
    · pointwise

/-- The gather of an image's expert's rows. -/
theorem gather_at (W : FVec Ideal S4x5x96x480 .f32) (K : IVec S2x1 32) (b : Fin 2) (e : Fin 4) (he : K (ix2 b 0) = BitVec.ofNat 32 e.val)
    (ky : Fin 5) (o : Fin 96) (x : Fin 480) :
    Host.gather gather_S4x5x96x480_S2x1_S2x5x96x480_123_0_n_n_0_1_1596480 W K (ix4 b ky o x) = W (ix4 e ky o x) := by
  unfold Host.gather
  refine congrArg W ?_
  have hs : GatherDims.siIdx gather_S4x5x96x480_S2x1_S2x5x96x480_123_0_n_n_0_1_1596480 (ix4 b ky o x) ⟨0, Nat.zero_lt_one⟩ = ix2 b 0 := by
    funext a
    apply Fin.ext
    fin_cases a <;> rfl
  funext a
  apply Fin.ext
  fin_cases a
  · show min (BitVec.toInt (K (GatherDims.siIdx gather_S4x5x96x480_S2x1_S2x5x96x480_123_0_n_n_0_1_1596480 (ix4 b ky o x) ⟨0, Nat.zero_lt_one⟩))).toNat 3 + 0 + 0 = e.val
    rw [hs, he, word_val _ (by omega)]
    have := e.isLt
    simp only [Int.toNat_natCast]
    omega
  · exact Nat.zero_add _
  · exact Nat.zero_add _
  · exact Nat.zero_add _

/-- Narrowing is no change. -/
theorem truncf_ideal {s : Shape} (X : FVec Ideal s .f32) (h) : (truncf .bf16 X h : FVec Ideal s .bf16) = X := rfl

/-- The kernel of the image's expert, at a tap. -/
theorem taps_at (I : IVec S2x1 32) (E : FVec Ideal S4x96x96x5x5 .f32) (b : Fin 2) (e : Fin 4) (he : I (ix2 b 0) = BitVec.ofNat 32 e.val)
    (ky dx : Fin 5) (o ci : Fin 96) (h : dx.val * 96 + ci.val < 480) :
    taps (F := Ideal) I E (ix4 b ky o ⟨dx.val * 96 + ci.val, h⟩) = E (ix5 e o ci ky dx) := by
  unfold taps
  rw [truncf_ideal]
  refine (gather_at _ _ b e ?_ ky o _).trans ?_
  · pointwise
    rw [he]
    exact wrap _ (by omega) _
  · pointwise

/-- A real divided by the number of a channel's elements. -/
theorem mean_real (x : EReal) (h : Rl x) : Rl (Ideal.div x (Ideal.ofBits .f32 0x47440000#32)) := by
  have e : Ideal.ofBits .f32 0x47440000#32 = ((50176 : ℝ) : EReal) := by
    simp [Ideal.ofBits, Ideal.ieee, -EReal.coe_mul]; norm_num
  rw [e, Ideal.div_coe (by norm_num)]
  exact h.mul ⟨_, rfl⟩

/-- The scores of real arguments are real. -/
theorem scores_real (X : FVec Ideal S2x96x224x224 .f32) (G : FVec Ideal S96x4 .f32) (hX : ∀ i, Rl (X i)) (hG : ∀ i, Rl (G i)) (i : S2x4.Idx) :
    Rl (Results.scoresOf X G i) := by
  idx_vars i
  pointwise [Results.scoresOf, logits, mean]
  refine Rl.sum _ _ fun k => (mean_real _ ?_).mul (hG _)
  exact Rl.sum _ _ fun r => Rl.sum _ _ fun x => hX _

end Cert.KernelIdeal.OneHot

end
-- ==== Proof.Experts.lean ====
/-
  The convolution with an image's taps: the shared expert's convolution plus that of the expert the gate chose.
-/
module

public import proofs.«01_k».proof.Proof.Taps
public import proofs.«01_k».proof.Proof.OneHot

@[expose] public section

set_option maxRecDepth 16384

noncomputable section

namespace Cert.KernelIdeal.Experts

open Cert.KernelIdeal Cert.KernelIdeal.Gen Cert.KernelIdeal.HostRead Cert.KernelIdeal.Results Cert.KernelIdeal.Arrays Cert.KernelIdeal.Taps
open Cert.KernelIdeal.OneHot Cert.Algebra
open Idealize.ShloMosaic Idealize.ShloMosaic.TcCoe Idealize.SL.Sem

variable (X : FVec Ideal S2x96x224x224 .f32) (b : Fin 2) (o : Fin 96) (r x : Fin 224)

/-- The element `i` rows and `j` columns into the 5x5 window of a pixel. -/
def under (c : Fin 96) (i j : ℕ) : EReal := bordered X b c (r.val + i) (x.val + j)

/-- Every pixel under a kernel is a real if the image is. -/
theorem under_real (hX : ∀ i, Rl (X i)) (c : Fin 96) (i j : ℕ) : Rl (under X b r x c i j) := by
  unfold under bordered
  split
  · exact hX _
  · exact Rl.zero

/-- The pixel under the middle of the 5x5 kernel is the pixel itself. -/
theorem under_middle (c : Fin 96) : under X b r x c 2 2 = X (ix4 b c r x) := by
  unfold under bordered
  rw [dif_pos (by omega)]
  exact congrArg X ((ix4_inj ..).2 ⟨rfl, rfl, Fin.ext (by dsimp only; omega), Fin.ext (by dsimp only; omega)⟩)

/-- The sum over the window of a kernel of twenty-five taps to a channel. -/
def window (w : Fin 96 → Fin 5 → Fin 5 → EReal) : EReal :=
  ∑ ky : Fin 5, ∑ dx : Fin 5, ∑ c : Fin 96, w c ky dx * under X b r x c ky.val dx.val

/-- The convolution with the selected taps is, at a pixel, the window sum with the chosen expert's taps. -/
theorem convolved_at (I : IVec S2x1 32) (E : FVec Ideal S4x96x96x5x5 .f32) (e : Fin 4) (he : I (ix2 b 0) = BitVec.ofNat 32 e.val) :
    convolved (taps (F := Ideal) I E) X (ix4 b o r x) = window X b r x fun c ky dx => E (ix5 e o c ky dx) := by
  unfold convolved window
  refine Finset.sum_congr rfl fun ky _ => Finset.sum_congr rfl fun dx _ => Finset.sum_congr rfl fun c _ => ?_
  exact congrArg (· * under X b r x c ky.val dx.val) (taps_at I E b e he ky dx o c (by omega))

/-- The window sum of a sum of two kernels is the sum of the two window sums, if the image and the first kernel are real. -/
theorem window_add (s e : Fin 96 → Fin 5 → Fin 5 → EReal) (hX : ∀ i, Rl (X i)) (hs : ∀ c i j, Rl (s c i j)) :
    (window X b r x fun c i j => s c i j + e c i j) = window X b r x s + window X b r x e := by
  unfold window
  rw [← Finset.sum_add_distrib]
  refine Finset.sum_congr rfl fun ky _ => ?_
  rw [← Finset.sum_add_distrib]
  refine Finset.sum_congr rfl fun dx _ => ?_
  rw [← Finset.sum_add_distrib]
  exact Finset.sum_congr rfl fun c _ => add_mul_real (hs c ky dx) (under_real X b r x hX _ _ _)

/-- In a window sum the two factors and the order of the three sums may be turned. -/
theorem window_turn (w : Fin 96 → Fin 5 → Fin 5 → EReal) :
    window X b r x w = ∑ c : Fin 96, ∑ i : Fin 5, ∑ j : Fin 5, w c i j * under X b r x c i.val j.val := sum_turn _

/-- The window sum of an embedded 3x3 kernel is the sum over the inner 3x3 taps. -/
theorem window_embed (w : FVec Ideal S96x96x3x3 .f32) :
    (window X b r x fun c i j => embed (F := Ideal) w (ix4 o c i j))
      = ∑ c : Fin 96, ∑ i : Fin 3, ∑ j : Fin 3, w (ix4 o c i j) * under X b r x c (i.val + 1) (j.val + 1) := by
  rw [window_turn]
  refine Finset.sum_congr rfl fun c _ => ?_
  rw [← sum_framed (fun i j => w (ix4 o c i j)) (under X b r x c)]
  refine Finset.sum_congr rfl fun i _ => Finset.sum_congr rfl fun j _ => ?_
  rw [embed_at]

/-- An embedded real 3x3 kernel is real. -/
theorem embed_real (w : FVec Ideal S96x96x3x3 .f32) (hw : ∀ i, Rl (w i)) (c : Fin 96) (i j : Fin 5) : Rl (embed (F := Ideal) w (ix4 o c i j)) := by
  rw [embed_at]
  unfold framed
  split
  · exact hw _
  · exact Rl.zero

/-- In a sum over the inner 3x3 taps the two factors may be swapped. -/
theorem turned (w : Fin 96 → Fin 3 → Fin 3 → EReal) :
    (∑ c : Fin 96, ∑ i : Fin 3, ∑ j : Fin 3, w c i j * under X b r x c (i.val + 1) (j.val + 1))
      = ∑ c : Fin 96, ∑ i : Fin 3, ∑ j : Fin 3, under X b r x c (i.val + 1) (j.val + 1) * w c i j :=
  Finset.sum_congr rfl fun c _ => Finset.sum_congr rfl fun i _ => Finset.sum_congr rfl fun j _ => EReal.mul_comm _ _

variable (C : FVec Ideal S96x96x3x3 .f32) (B : FVec Ideal S96x96x24 .f32) (R : FVec Ideal S96x288x1x1 .f32)
    (H : FVec Ideal S96x96x1x1 .f32) (S : FVec Ideal S96x96x3x3 .f32)

/-- The shared expert's convolution. -/
def shared : EReal := ∑ c : Fin 96, ∑ i : Fin 3, ∑ j : Fin 3, under X b r x c (i.val + 1) (j.val + 1) * S (ix4 o c i j)

/-- The central-difference expert: the plain convolution less 0.7 of the 1x1 one with the kernels' sums. -/
def central0 : EReal := (∑ c : Fin 96, ∑ i : Fin 3, ∑ j : Fin 3, under X b r x c (i.val + 1) (j.val + 1) * C (ix4 o c i j))
  - Ideal.ofBits .f32 0x3F333333#32 * ∑ c : Fin 96, X (ix4 b c r x) * ∑ i : Fin 3, ∑ j : Fin 3, C (ix4 o c i j)

/-- The prediction-error expert. -/
def bayar1 : EReal := ∑ c : Fin 96, ∑ i : Fin 5, ∑ j : Fin 5, under X b r x c i.val j.val * bayarTaps (F := Ideal) B (ix4 o c i j)

/-- The noise-residual expert. -/
def srm2 : EReal := ∑ c : Fin 96, ∑ k : Fin 3, (∑ i : Fin 5, ∑ j : Fin 5, under X b r x c i.val j.val * filters (F := Ideal) (ix3 k i j))
  * R (ix4 o ⟨c.val * 3 + k.val, by omega⟩ 0 0)

/-- The high-frequency expert. -/
def high3 : EReal := ∑ c : Fin 96, (∑ i : Fin 3, ∑ j : Fin 3, under X b r x c (i.val + 1) (j.val + 1) * laplace (F := Ideal) (ix2 i j))
  * H (ix4 o c 0 0)

/-- The window sum of the embedded shared kernel is the shared convolution. -/
theorem window_shared : (window X b r x fun c i j => embed (F := Ideal) S (ix4 o c i j)) = shared X b o r x S := by
  rw [window_embed, turned]; rfl

/-- The float word of minus the centre factor is the negative of the centre factor's. -/
theorem seven_tenths : Ideal.ofBits .f32 0xBF333333#32 = -Ideal.ofBits .f32 0x3F333333#32 := by
  simp [Ideal.ofBits, Ideal.ieee, -EReal.coe_mul]

/-- The window sum of the central-difference taps is the central-difference convolution, for a real image and real kernels. -/
theorem window_central (hX : ∀ i, Rl (X i)) (hC : ∀ i, Rl (C i)) :
    (window X b r x fun c i j => embed (F := Ideal) (cdTaps (F := Ideal) C) (ix4 o c i j)) = central0 X b o r x C := by
  rw [window_embed]
  unfold central0
  refine Eq.trans ?_ ((central (fun c i j => C (ix4 o c i j)) (fun c i j => under X b r x c (i.val + 1) (j.val + 1))
    (fun c => ∑ i : Fin 3, ∑ j : Fin 3, C (ix4 o c i j)) (Ideal.ofBits .f32 0xBF333333#32) (Ideal.ofBits .f32 0x3F333333#32) seven_tenths
    (Rl.bits _ (by decide)) (fun _ _ _ => hC _) (fun _ _ _ => under_real X b r x hX _ _ _)
    (fun _ => Rl.sum _ _ fun _ => Rl.sum _ _ fun _ => hC _)).trans ?_)
  · refine Finset.sum_congr rfl fun c _ => Finset.sum_congr rfl fun i _ => Finset.sum_congr rfl fun j _ => ?_
    rw [cd_at]
  · refine congrArg (fun t => _ - _ * t) (Finset.sum_congr rfl fun c _ => ?_)
    exact congrArg (· * _) (under_middle X b r x c)

/-- The window sum of the Bayar taps is the Bayar convolution. -/
theorem window_bayar : (window X b r x fun c i j => bayarTaps (F := Ideal) B (ix4 o c i j)) = bayar1 X b o r x B := by
  rw [window_turn]
  exact Finset.sum_congr rfl fun c _ => Finset.sum_congr rfl fun i _ => Finset.sum_congr rfl fun j _ => EReal.mul_comm _ _

/-- No word of the three fixed filters is an infinity or a NaN. -/
theorem lit0_real : ∀ n : Fin 75, ((lit0 n).extractLsb' 23 8).toNat ≠ 255 := by decide
/-- No word of the fixed Laplacian is an infinity or a NaN. -/
theorem lit1_real : ∀ n : Fin 9, ((lit1 n).extractLsb' 23 8).toNat ≠ 255 := by decide

/-- The filters are real. -/
theorem filters_real (i : S3x5x5.Idx) : Rl (filters (F := Ideal) i) := Rl.bits (lit0 (S3x5x5.rowMajor i)) (lit0_real _)
/-- Every tap of the fixed Laplacian is a real. -/
theorem laplace_real (i : S3x3.Idx) : Rl (laplace (F := Ideal) i) := Rl.bits (lit1 (S3x3.rowMajor i)) (lit1_real _)

/-- The window sum of the merged SRM taps is the 1x1 convolution of the filtered image, for a real image and real weights. -/
theorem window_srm (hX : ∀ i, Rl (X i)) (hR : ∀ i, Rl (R i)) :
    (window X b r x fun c i j => srmTaps (F := Ideal) R (ix4 o c i j)) = srm2 X b o r x R := by
  have key := filtered (n := 3) (p := 5) (q := 5) (fun (c : Fin 96) (k : Fin 3) => R (ix4 o ⟨c.val * 3 + k.val, by omega⟩ 0 0))
    (fun k i j => filters (F := Ideal) (ix3 k i j)) (fun c i j => under X b r x c i.val j.val)
    (fun _ _ => hR _) (fun _ _ _ => filters_real _) (fun _ _ _ => under_real X b r x hX _ _ _)
  rw [window_turn]
  unfold srm2
  rw [← key]
  refine Finset.sum_congr rfl fun c _ => Finset.sum_congr rfl fun i _ => Finset.sum_congr rfl fun j _ => ?_
  rw [srm_at]

/-- The window sum of the merged Laplacian taps is the 1x1 convolution of the filtered image, for a real image and real weights. -/
theorem window_high (hX : ∀ i, Rl (X i)) (hH : ∀ i, Rl (H i)) :
    (window X b r x fun c i j => embed (F := Ideal) (hfTaps (F := Ideal) H) (ix4 o c i j)) = high3 X b o r x H := by
  rw [window_embed]
  refine Eq.trans ?_ ((filtered (fun c (_ : Fin 1) => H (ix4 o c 0 0)) (fun _ i j => laplace (F := Ideal) (ix2 i j))
    (fun c (i j : Fin 3) => under X b r x c (i.val + 1) (j.val + 1)) (fun _ _ => hH _) (fun _ _ _ => laplace_real _) (fun _ _ _ => under_real X b r x hX _ _ _)).trans ?_)
  · refine Finset.sum_congr rfl fun c _ => Finset.sum_congr rfl fun i _ => Finset.sum_congr rfl fun j _ => ?_
    rw [hf_at, Fin.sum_univ_one]
  · exact Finset.sum_congr rfl fun c _ => Fin.sum_univ_one _

/-- The chosen expert's value. -/
def chosen (e : Fin 4) : EReal := ![central0 X b o r x C, bayar1 X b o r x B, srm2 X b o r x R, high3 X b o r x H] e

/-- The program's result: the shared expert's value plus the chosen expert's. -/
theorem result_at (I : IVec S2x1 32) (e : Fin 4) (he : I (ix2 b 0) = BitVec.ofNat 32 e.val) (hX : ∀ i, Rl (X i)) (hC : ∀ i, Rl (C i))
    (hR : ∀ i, Rl (R i)) (hH : ∀ i, Rl (H i)) (hS : ∀ i, Rl (S i)) :
    convolved (taps (F := Ideal) I (kernels C B R H S)) X (ix4 b o r x) = shared X b o r x S + chosen X b o r x C B R H e := by
  rw [convolved_at X b o r x I _ e he]
  have hs := window_add X b r x (fun c i j => embed (F := Ideal) S (ix4 o c i j))
  fin_cases e
  · refine (congrArg (window X b r x) (funext fun c => funext fun i => funext fun j => kernels_0 C B R H S o c i j)).trans ?_
    rw [hs _ hX (embed_real o S hS), window_shared, window_central X b o r x C hX hC]; rfl
  · refine (congrArg (window X b r x) (funext fun c => funext fun i => funext fun j => kernels_1 C B R H S o c i j)).trans ?_
    rw [hs _ hX (embed_real o S hS), window_shared, window_bayar]; rfl
  · refine (congrArg (window X b r x) (funext fun c => funext fun i => funext fun j => kernels_2 C B R H S o c i j)).trans ?_
    rw [hs _ hX (embed_real o S hS), window_shared, window_srm X b o r x R hX hR]; rfl
  · refine (congrArg (window X b r x) (funext fun c => funext fun i => funext fun j => kernels_3 C B R H S o c i j)).trans ?_
    rw [hs _ hX (embed_real o S hS), window_shared, window_high X b o r x H hX hH]; rfl

end Cert.KernelIdeal.Experts

end
-- ==== Proof.Outcome.lean ====
/-
  The reference's first result: the shared expert's value plus that of the expert the gate chose.
-/
module

public import proofs.«01_k».proof.Proof.Windows
public import proofs.«01_k».proof.Proof.Gate
public import proofs.«01_k».proof.Proof.Experts

@[expose] public section

set_option maxRecDepth 16384

noncomputable section

namespace Cert.ReferenceIdeal.Outcome

open Cert.ReferenceIdeal Cert.ReferenceIdeal.Gen Cert.ReferenceIdeal.Value Cert.ReferenceIdeal.Windows Idealize.ShloMosaic Idealize.ShloMosaic.TcCoe Idealize.SL.Sem Idealize.ShloMosaic.StableHlo
open Cert.Algebra
open Cert.KernelIdeal.HostRead (weights served importance loss bayarTaps filters laplace topI)
open Cert.KernelIdeal.Results (scoresOf)
open Cert.KernelIdeal.Experts (under shared central0 bayar1 srm2 high3 chosen)
open Cert.KernelIdeal.Arrays (bordered)

/-- An expert's weight at every pixel of its image. -/
def spread (g : FVec Ideal S2x1 .f32) : FVec Ideal S2x96x224x224 .f32 :=
  broadcastInDim S2x96x224x224 ![0, 1, 2, 3] bcast_S2x1x1x1_S2x96x224x224_0_1_2_3 (broadcastInDim S2x1x1x1 ![0] bcast_S2_S2x1x1x1_0 (shapeCast S2 g shapeCasts_S2x1_S2))

/-- A gate weight spread over an image is, at every pixel, that image's weight. -/
theorem spread_at (g : FVec Ideal S2x1 .f32) (b : Fin 2) (o : Fin 96) (r x : Fin 224) : spread g (ix4 b o r x) = g (ix2 b 0) := by
  pointwise [spread]

/-- The central-difference expert, as the reference computes it. -/
def cd (X : FVec Ideal S2x96x224x224 .f32) (U : FVec Ideal S2x96x3x3x224x224 .f32) (C : FVec Ideal S96x96x3x3 .f32) : FVec Ideal S2x96x224x224 .f32 :=
  subf (convThree U C) (mulf (broadcastInDim S2x96x224x224 ![] bcast_S_S2x96x224x224 (constant S_ .f32 0x3F333333#32) : FVec Ideal S2x96x224x224 .f32)
    (convOne X (Host.reduceAdd C (constant S_ .f32 0x00000000#32) reducesTo_S96x96x3x3_S96x96_d2_3 h_S_)))

/-- The noise-residual expert, as the reference computes it. -/
def srm (U : FVec Ideal S2x96x5x5x224x224 .f32) (R : FVec Ideal S96x288x1x1 .f32) : FVec Ideal S2x96x224x224 .f32 :=
  convOneWide (underThree U fun i => FloatOps.ofBits .f32 (lit0 (S3x5x5.rowMajor i))) (shapeCast S96x288 R shapeCasts_S96x288x1x1_S96x288)

/-- The high-frequency expert, as the reference computes it. -/
def high (U : FVec Ideal S2x96x3x3x224x224 .f32) (H : FVec Ideal S96x96x1x1 .f32) : FVec Ideal S2x96x224x224 .f32 :=
  convOne (underOne U fun i => FloatOps.ofBits .f32 (lit1 (S1x3x3.rowMajor i))) (shapeCast S96x96 H shapeCasts_S96x96x1x1_S96x96)

/-- The experts' values under the gate's weights, added to the shared expert's. -/
def mixed (W : FVec Ideal S2x4 .f32) (A e0 e1 e2 e3 : FVec Ideal S2x96x224x224 .f32) : FVec Ideal S2x96x224x224 .f32 :=
  addf (addf (addf (addf A
    (mulf (spread (extractStridedSlice S2x1 ![0, 0] W slices_S2x4_S2x1_0_0)) e0))
    (mulf (spread (extractStridedSlice S2x1 ![0, 1] W slices_S2x4_S2x1_0_1)) e1))
    (mulf (spread (extractStridedSlice S2x1 ![0, 2] W slices_S2x4_S2x1_0_2)) e2))
    (mulf (spread (extractStridedSlice S2x1 ![0, 3] W slices_S2x4_S2x1_0_3)) e3)

/-- The mixture at a pixel is the shared value plus the four weighted expert values. -/
theorem mixed_at (W : FVec Ideal S2x4 .f32) (A e0 e1 e2 e3 : FVec Ideal S2x96x224x224 .f32) (b : Fin 2) (o : Fin 96) (r x : Fin 224) :
    mixed W A e0 e1 e2 e3 (ix4 b o r x) = A (ix4 b o r x) + W (ix2 b 0) * e0 (ix4 b o r x) + W (ix2 b 1) * e1 (ix4 b o r x)
      + W (ix2 b 2) * e2 (ix4 b o r x) + W (ix2 b 3) * e3 (ix4 b o r x) := by
  pointwise [mixed, spread]

/-- Of the experts under weights of one and zeroes one is left. -/
theorem mixed_one (W : FVec Ideal S2x4 .f32) (A e0 e1 e2 e3 : FVec Ideal S2x96x224x224 .f32) (b : Fin 2) (o : Fin 96) (r x : Fin 224) (e : Fin 4)
    (hW : ∀ k, W (ix2 b k) = (if k = e then 1 else 0 : EReal)) :
    mixed W A e0 e1 e2 e3 (ix4 b o r x) = A (ix4 b o r x) + (![e0 (ix4 b o r x), e1 (ix4 b o r x), e2 (ix4 b o r x), e3 (ix4 b o r x)] : Fin 4 → EReal) e := by
  rw [mixed_at, hW, hW, hW, hW]
  fin_cases e <;> simp

variable (V : Valuation τ sig (Elt Ideal))

/-- The reference's 3x3 convolution at a pixel is the shared convolution. -/
theorem three_at (C : FVec Ideal S96x96x3x3 .f32) (b : Fin 2) (o : Fin 96) (r x : Fin 224) :
    convThree (res_main_v55 (F := Ideal) V) C (ix4 b o r x) = shared (V main_arg0) b o r x C := by
  rw [convThree_at]
  refine Finset.sum_congr rfl fun c _ => Finset.sum_congr rfl fun i _ => Finset.sum_congr rfl fun j _ => ?_
  rw [v55_at]; rfl

/-- The reference's first expert at a pixel is the central-difference convolution. -/
theorem cd_at (C : FVec Ideal S96x96x3x3 .f32) (b : Fin 2) (o : Fin 96) (r x : Fin 224) :
    cd (V main_arg0) (res_main_v55 (F := Ideal) V) C (ix4 b o r x) = central0 (V main_arg0) b o r x C := by
  unfold cd central0
  refine Eq.trans (b := convThree (res_main_v55 (F := Ideal) V) C (ix4 b o r x) - Ideal.ofBits .f32 0x3F333333#32
    * convOne (V main_arg0) (Host.reduceAdd C (constant S_ .f32 0x00000000#32) reducesTo_S96x96x3x3_S96x96_d2_3 h_S_) (ix4 b o r x)) rfl ?_
  rw [three_at, convOne_at]
  refine congrArg (fun t => _ - _ * t) (Finset.sum_congr rfl fun c _ => congrArg _ ?_)
  pointwise

/-- The reference's second expert at a pixel is the Bayar convolution. -/
theorem bayar_at (B : FVec Ideal S96x96x24 .f32) (b : Fin 2) (o : Fin 96) (r x : Fin 224) :
    convFive (res_main_v78 (F := Ideal) V) (bayarTaps (F := Ideal) B) (ix4 b o r x) = bayar1 (V main_arg0) b o r x B := by
  rw [convFive_at]
  refine Finset.sum_congr rfl fun c _ => Finset.sum_congr rfl fun i _ => Finset.sum_congr rfl fun j _ => ?_
  rw [v78_at]; rfl

/-- The two programs carry the same words of the three fixed filters. -/
theorem lit0_same : ∀ n : Fin 75, Cert.ReferenceIdeal.lit0 n = Cert.KernelIdeal.lit0 n := by decide
/-- The two programs carry the same words of the fixed Laplacian. -/
theorem lit1_same : ∀ n : Fin 9, Cert.ReferenceIdeal.lit1 n = Cert.KernelIdeal.lit1 n := by decide

/-- The reference's third expert at a pixel is the 1x1 convolution of the three filtered images. -/
theorem srm_at (R : FVec Ideal S96x288x1x1 .f32) (b : Fin 2) (o : Fin 96) (r x : Fin 224) :
    srm (res_main_v78 (F := Ideal) V) R (ix4 b o r x) = srm2 (V main_arg0) b o r x R := by
  unfold srm srm2
  rw [convOneWide_at, Fin.sum_univ_tiles 96 3 rfl]
  refine Finset.sum_congr rfl fun c _ => Finset.sum_congr rfl fun k _ => Ideal.mul_congr ?_ ?_
  · rw [underThree_at]
    refine Finset.sum_congr rfl fun i _ => Finset.sum_congr rfl fun j _ => Ideal.mul_congr ?_ ?_
    · rw [v78_at]
      exact congrArg (fun d => under (V main_arg0) b r x d i.val j.val) (Fin.ext (by dsimp only; omega))
    · exact (congrArg (Ideal.ofBits .f32) (lit0_same _)).trans
        (congrArg (filters (F := Ideal)) ((ix3_inj ..).2 ⟨Fin.ext (by dsimp only; omega), rfl, rfl⟩))
  · pointwise

/-- The reference's fourth expert at a pixel is the 1x1 convolution of the Laplacian of the image. -/
theorem high_at (H : FVec Ideal S96x96x1x1 .f32) (b : Fin 2) (o : Fin 96) (r x : Fin 224) :
    high (res_main_v55 (F := Ideal) V) H (ix4 b o r x) = high3 (V main_arg0) b o r x H := by
  unfold high high3
  rw [convOne_at]
  refine Finset.sum_congr rfl fun c _ => Ideal.mul_congr ?_ ?_
  · rw [underOne_at]
    refine Finset.sum_congr rfl fun i _ => Finset.sum_congr rfl fun j _ => Ideal.mul_congr ?_ ?_
    · rw [v55_at]; rfl
    · refine (congrArg (Ideal.ofBits .f32) (lit1_same _)).trans (congrArg (fun n => Ideal.ofBits .f32 (Cert.KernelIdeal.lit1 n)) (Fin.ext ?_))
      rw [Shape.rowMajor_val_two, Shape.rowMajor_val_three]
      show (0 * 3 + i.val) * 3 + j.val = i.val * 3 + j.val
      omega
  · pointwise

/-- The reference's first result. -/
def outcome : FVec Ideal S2x96x224x224 .f32 :=
  mixed (res_main_v29 (F := Ideal) V) (convThree (res_main_v55 (F := Ideal) V) (V main_arg6)) (cd (V main_arg0) (res_main_v55 (F := Ideal) V) (V main_arg2))
    (convFive (res_main_v78 (F := Ideal) V) (bayarTaps (F := Ideal) (V main_arg3))) (srm (res_main_v78 (F := Ideal) V) (V main_arg4))
    (high (res_main_v55 (F := Ideal) V) (V main_arg5))

/-- The two programs' first results are one. -/
theorem outcome_kernel (hX : ∀ i, Rl ((V main_arg0 : FVec Ideal S2x96x224x224 .f32) i)) (hG : ∀ i, Rl ((V main_arg1 : FVec Ideal S96x4 .f32) i))
    (hC : ∀ i, Rl ((V main_arg2 : FVec Ideal S96x96x3x3 .f32) i)) (hR : ∀ i, Rl ((V main_arg4 : FVec Ideal S96x288x1x1 .f32) i))
    (hH : ∀ i, Rl ((V main_arg5 : FVec Ideal S96x96x1x1 .f32) i)) (hS : ∀ i, Rl ((V main_arg6 : FVec Ideal S96x96x3x3 .f32) i)) :
    outcome V = Cert.KernelIdeal.Arrays.convolved (Cert.KernelIdeal.HostRead.taps (F := Ideal) (topI (F := Ideal) (scoresOf (V main_arg0) (V main_arg1)))
      (Cert.KernelIdeal.Results.kernels (V main_arg2) (V main_arg3) (V main_arg4) (V main_arg5) (V main_arg6))) (V main_arg0) := by
  funext p
  idx_vars p
  have hL := Cert.KernelIdeal.OneHot.scores_real (V main_arg0) (V main_arg1) hX hG
  obtain ⟨e, _, he⟩ := Cert.KernelIdeal.OneHot.top_at (scoresOf (V main_arg0) (V main_arg1)) p0
  refine Eq.trans ?_ (Cert.KernelIdeal.Experts.result_at (V main_arg0) p0 p1 p2 p3 (V main_arg2) (V main_arg3) (V main_arg4) (V main_arg5) (V main_arg6)
    _ e he hX hC hR hH hS).symm
  unfold outcome
  refine (mixed_one _ _ _ _ _ _ p0 p1 p2 p3 e fun k => ?_).trans ?_
  · rw [Gate.weights_ref]
    exact Cert.KernelIdeal.OneHot.weights_at _ hL p0 e he k
  · unfold chosen
    rw [three_at, cd_at, bayar_at, srm_at, high_at]

/-- The reference's five results, where the arguments but the prediction taps are real, as the kernel's. -/
theorem run_values (m : (ℓ : Loc nD τ sig) → Buf (Elt Ideal) ℓ) (ρ : Dev nD → PrngReg)
    (hX : ∀ c : Dev nD, ∀ i, Rl (((m ((c.tc : Thread nD τ).loc main_arg0)) : FVec Ideal S2x96x224x224 .f32) i)) (hG : ∀ c : Dev nD, ∀ i, Rl (((m ((c.tc : Thread nD τ).loc main_arg1)) : FVec Ideal S96x4 .f32) i))
    (hC : ∀ c : Dev nD, ∀ i, Rl (((m ((c.tc : Thread nD τ).loc main_arg2)) : FVec Ideal S96x96x3x3 .f32) i)) (hR : ∀ c : Dev nD, ∀ i, Rl (((m ((c.tc : Thread nD τ).loc main_arg4)) : FVec Ideal S96x288x1x1 .f32) i))
    (hH : ∀ c : Dev nD, ∀ i, Rl (((m ((c.tc : Thread nD τ).loc main_arg5)) : FVec Ideal S96x96x1x1 .f32) i)) (hS : ∀ c : Dev nD, ∀ i, Rl (((m ((c.tc : Thread nD τ).loc main_arg6)) : FVec Ideal S96x96x3x3 .f32) i)) :
    θ_run defs (onTc (τ := τ) (main (F := Ideal))) ⟨m, fun _ => 0, ρ⟩ fun r => ∀ c : Dev nD,
    r.2.mem ((c.tc : Thread nD τ).loc main_v136)
        = Cert.KernelIdeal.Arrays.convolved (Cert.KernelIdeal.HostRead.taps (F := Ideal) (topI (F := Ideal) (scoresOf (m ((c.tc : Thread nD τ).loc main_arg0)) (m ((c.tc : Thread nD τ).loc main_arg1))))
          (Cert.KernelIdeal.Results.kernels (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))) (m ((c.tc : Thread nD τ).loc main_arg0))
      ∧ r.2.mem ((c.tc : Thread nD τ).loc main_v40) = loss (F := Ideal) (importance (F := Ideal) (weights (F := Ideal) (scoresOf (m ((c.tc : Thread nD τ).loc main_arg0)) (m ((c.tc : Thread nD τ).loc main_arg1)))))
      ∧ r.2.mem ((c.tc : Thread nD τ).loc main_v33) = served (F := Ideal) (weights (F := Ideal) (scoresOf (m ((c.tc : Thread nD τ).loc main_arg0)) (m ((c.tc : Thread nD τ).loc main_arg1))))
      ∧ r.2.mem ((c.tc : Thread nD τ).loc main_v34) = importance (F := Ideal) (weights (F := Ideal) (scoresOf (m ((c.tc : Thread nD τ).loc main_arg0)) (m ((c.tc : Thread nD τ).loc main_arg1))))
      ∧ r.2.mem ((c.tc : Thread nD τ).loc main_v29) = weights (F := Ideal) (scoresOf (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c =>
    ⟨(h c).1.trans (outcome_kernel (launchContents m c) (hX c) (hG c) (hC c) (hR c) (hH c) (hS c)),
      (h c).2.1.trans (Gate.loss_ref (launchContents m c)),
      (h c).2.2.1.trans (Gate.served_ref (launchContents m c)),
      (h c).2.2.2.1.trans (Gate.importance_ref (launchContents m c)),
      (h c).2.2.2.2.1.trans (Gate.weights_ref (launchContents m c)),
      (h c).2.2.2.2.2⟩) (Value.run (F := Ideal) m ρ)

end Cert.ReferenceIdeal.Outcome

end
-- ==== Proof.Finite.lean ====
/-
  What the precondition says of the arguments: every element of all but the prediction taps is a real number.
-/
module

public import proofs.«01_k».proof.Defs
public import proofs.«01_k».proof.Proof.Algebra
public import Idealize.ShloMosaic.Lib.ReduceAll

@[expose] public section

noncomputable section

namespace Cert.Pre_finite

open Idealize.ShloMosaic Cert.Algebra

/-- The shape relations the precondition's operations take. -/
theorem facts : Cert.Pre_finite.Facts :=
  ⟨by decide, by decide, by decide, by decide, by decide, by decide, by decide, by decide, by decide, by decide, by decide⟩

/-- The float word of infinity is the top element. -/
theorem infinity_word : Ideal.ofBits .f32 0x7F800000#32 = (⊤ : EReal) := by
  simp [Ideal.ofBits, Ideal.ieee]

/-- A number whose magnitude is below infinity is real. -/
theorem real_of_lt (x : EReal) (h : FloatOps.cmpf (F := Ideal) (φ := .f32) .olt (FloatOps.absf (F := Ideal) (φ := .f32) x) (Ideal.ofBits .f32 0x7F800000#32) = 1#1) : Rl x := by
  rw [infinity_word] at h
  induction x using EReal.rec with
  | coe r => exact ⟨r, rfl⟩
  | top =>
    change Ideal.cmp .olt (max (⊤ : EReal) (-⊤)) ⊤ = 1#1 at h
    simp [Ideal.cmp] at h
  | bot =>
    change Ideal.cmp .olt (max (⊥ : EReal) (-⊥)) ⊤ = 1#1 at h
    simp [Ideal.cmp] at h

instance : Subsingleton S_.Idx := ⟨fun a b => funext fun k => k.elim0⟩

/-- An array every magnitude of which is below infinity has real elements. -/
theorem all_real {s : Shape} {axes : List (Fin s.rank)} (A : FVec Ideal s .f32) (hb : S_.BroadcastsInDim s (![] : Fin 0 → Fin s.rank)) (hr : s.ReducesTo axes S_)
    (hu : 0 < S_.numel) (j : S_.Idx)
    (h : Host.reduce IntOp.andi (cmpf .olt (Host.absf A) (broadcastInDim s ![] hb (constant (F := Ideal) S_ .f32 0x7F800000#32))) (constantI S_ 1 1#1) hr hu j = 1#1)
    (i : s.Idx) : Rl (A i) :=
  real_of_lt (A i) (Host.reduce_andi_all _ _ hr hu j h i)

/-- The arguments' elements are real where the precondition holds. -/
theorem reals [Facts] (X : FVec Ideal S2x96x224x224 .f32) (G : FVec Ideal S96x4 .f32) (C : FVec Ideal S96x96x3x3 .f32) (B : FVec Ideal S96x96x24 .f32)
    (R : FVec Ideal S96x288x1x1 .f32) (H : FVec Ideal S96x96x1x1 .f32) (S : FVec Ideal S96x96x3x3 .f32) (h : fn (F := Ideal) X G C B R H S = fun _ => 1#1) :
    (∀ i, Rl (X i)) ∧ (∀ i, Rl (G i)) ∧ (∀ i, Rl (C i)) ∧ (∀ i, Rl (R i)) ∧ (∀ i, Rl (H i)) ∧ (∀ i, Rl (S i)) := by
  have j : S_.Idx := fun k => k.elim0
  have h0 := congrFun h j
  obtain ⟨h1, hS⟩ := IntOp.andi_eq_one.1 h0
  obtain ⟨h2, hH⟩ := IntOp.andi_eq_one.1 h1
  obtain ⟨h3, hR⟩ := IntOp.andi_eq_one.1 h2
  obtain ⟨h4, hC⟩ := IntOp.andi_eq_one.1 h3
  obtain ⟨hX, hG⟩ := IntOp.andi_eq_one.1 h4
  exact ⟨all_real X _ _ _ j hX, all_real G _ _ _ j hG, all_real C _ _ _ j hC, all_real R _ _ _ j hR, all_real H _ _ _ j hH, all_real S _ _ _ j hS⟩

end Cert.Pre_finite

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal.Run
public import proofs.«01_k».proof.Proof.Run
public import proofs.«01_k».proof.Proof.Printed.Run
public import proofs.«01_k».proof.Proof.Outcome
public import proofs.«01_k».proof.Proof.Finite
public import Idealize.ShloMosaic.Adequacy
public import Idealize.ShloMosaic.Init

@[expose] public section

noncomputable section

namespace Cert.Proof

open Idealize.ShloMosaic Idealize.SL.Sem

/-- The reference ends, its arguments as launched; it has no semaphore. -/
theorem frame_ri : @Cert.quiescent_ReferenceIdeal Cert.ReferenceIdeal.Gen.facts := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

/-- From memories agreeing on the arguments, all but the prediction taps finite, the two programs end with the same results. -/
theorem same_results : @Cert.algebraic_KernelIdeal_ReferenceIdeal_pre_finite Cert.KernelIdeal.Gen.facts Cert.ReferenceIdeal.Gen.facts Cert.Pre_finite.facts := by
  intro m g m' g' hpre harg
  have hr := fun c => @Cert.Pre_finite.reals Cert.Pre_finite.facts _ _ _ _ _ _ _ (hpre c)
  refine ⟨_, _, _, _, _, Cert.KernelIdeal.Results.run_values m g, ?_⟩
  refine (θ_run Cert.ReferenceIdeal.defs _ _).mono (fun r h c => ?_) (Cert.ReferenceIdeal.Outcome.run_values m' g'
    (fun c => ?_) (fun c => ?_) (fun c => ?_) (fun c => ?_) (fun c => ?_) (fun c => ?_))
  · obtain ⟨a0, a1, a2, a3, a4, a5, a6⟩ := harg c
    have hc := h c
    rw [a0, a1, a2, a3, a4, a5, a6] at hc ⊢
    exact hc
  · rw [(harg c).1]; exact (hr c).1
  · rw [(harg c).2.1]; exact (hr c).2.1
  · rw [(harg c).2.2.1]; exact (hr c).2.2.1
  · rw [(harg c).2.2.2.2.1]; exact (hr c).2.2.2.1
  · rw [(harg c).2.2.2.2.2.1]; exact (hr c).2.2.2.2.1
  · rw [(harg c).2.2.2.2.2.2]; exact (hr c).2.2.2.2.2

/-- Every claim of the certificate. -/
theorem claim : Cert.Claim := ⟨Cert.Kernel.Gen.facts, Cert.KernelIdeal.Gen.facts, Cert.ReferenceIdeal.Gen.facts, Cert.Pre_finite.facts,
  fun m ρ _ => Cert.Kernel.Run.frame_main (F := Bits) m ρ, fun m ρ _ => Cert.KernelIdeal.Run.frame_main (F := Ideal) m ρ,
  fun m ρ _ => Cert.KernelIdeal.Run.frame_main (F := Ideal) m ρ, frame_ri, fun m ρ _ => frame_ri m ρ trivial, trivial, same_results⟩

end Cert.Proof

end
